-- ==== Defs.lean ====
def Pre_Kernel [hPre_roll_1_Kernel : Cert.Pre_roll_1_Kernel.Facts] (m : (ℓ : Loc Cert.Kernel.nD Cert.Kernel.τ Cert.Kernel.sig) → Buf (Elt Bits) ℓ) : Prop :=
  ∀ c : Dev Cert.Kernel.nD,
    (Cert.Pre_roll_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_2_Kernel [hPre_roll_2_Kernel : Cert.Pre_roll_2_Kernel.Facts] (m : (ℓ : Loc Cert.Kernel.nD Cert.Kernel.τ Cert.Kernel.sig) → Buf (Elt Bits) ℓ) : Prop :=
  ∀ c : Dev Cert.Kernel.nD,
    (Cert.Pre_roll_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_3_Kernel [hPre_roll_3_Kernel : Cert.Pre_roll_3_Kernel.Facts] (m : (ℓ : Loc Cert.Kernel.nD Cert.Kernel.τ Cert.Kernel.sig) → Buf (Elt Bits) ℓ) : Prop :=
  ∀ c : Dev Cert.Kernel.nD,
    (Cert.Pre_roll_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_4_Kernel [hPre_roll_4_Kernel : Cert.Pre_roll_4_Kernel.Facts] (m : (ℓ : Loc Cert.Kernel.nD Cert.Kernel.τ Cert.Kernel.sig) → Buf (Elt Bits) ℓ) : Prop :=
  ∀ c : Dev Cert.Kernel.nD,
    (Cert.Pre_roll_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_5_Kernel [hPre_roll_5_Kernel : Cert.Pre_roll_5_Kernel.Facts] (m : (ℓ : Loc Cert.Kernel.nD Cert.Kernel.τ Cert.Kernel.sig) → Buf (Elt Bits) ℓ) : Prop :=
  ∀ c : Dev Cert.Kernel.nD,
    (Cert.Pre_roll_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_6_Kernel [hPre_roll_6_Kernel : Cert.Pre_roll_6_Kernel.Facts] (m : (ℓ : Loc Cert.Kernel.nD Cert.Kernel.τ Cert.Kernel.sig) → Buf (Elt Bits) ℓ) : Prop :=
  ∀ c : Dev Cert.Kernel.nD,
    (Cert.Pre_roll_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_7_Kernel [hPre_roll_7_Kernel : Cert.Pre_roll_7_Kernel.Facts] (m : (ℓ : Loc Cert.Kernel.nD Cert.Kernel.τ Cert.Kernel.sig) → Buf (Elt Bits) ℓ) : Prop :=
  ∀ c : Dev Cert.Kernel.nD,
    (Cert.Pre_roll_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_roll_1_Kernel : Cert.Pre_roll_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_2_Kernel [hPre_roll_2_Kernel : Cert.Pre_roll_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_3_Kernel [hPre_roll_3_Kernel : Cert.Pre_roll_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_4_Kernel [hPre_roll_4_Kernel : Cert.Pre_roll_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_5_Kernel [hPre_roll_5_Kernel : Cert.Pre_roll_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_6_Kernel [hPre_roll_6_Kernel : Cert.Pre_roll_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_7_Kernel [hPre_roll_7_Kernel : Cert.Pre_roll_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_roll_1_ReferenceIdeal [hPre_roll_1_ReferenceIdeal : Cert.Pre_roll_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_2_ReferenceIdeal [hPre_roll_2_ReferenceIdeal : Cert.Pre_roll_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_3_ReferenceIdeal [hPre_roll_3_ReferenceIdeal : Cert.Pre_roll_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_4_ReferenceIdeal [hPre_roll_4_ReferenceIdeal : Cert.Pre_roll_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_5_ReferenceIdeal [hPre_roll_5_ReferenceIdeal : Cert.Pre_roll_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_6_ReferenceIdeal [hPre_roll_6_ReferenceIdeal : Cert.Pre_roll_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_7_ReferenceIdeal [hPre_roll_7_ReferenceIdeal : Cert.Pre_roll_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_roll_1_Kernel : Cert.Pre_roll_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_2_Kernel [hKernel : Cert.Kernel.Facts] [hPre_roll_2_Kernel : Cert.Pre_roll_2_Kernel.Facts] : Prop :=
  ∀ (m : (ℓ : Loc Cert.Kernel.nD Cert.Kernel.τ Cert.Kernel.sig) → Buf (Elt Bits) ℓ) (g : Dev Cert.Kernel.nD → PrngReg), Pre_Kernel_roll_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_3_Kernel [hKernel : Cert.Kernel.Facts] [hPre_roll_3_Kernel : Cert.Pre_roll_3_Kernel.Facts] : Prop :=
  ∀ (m : (ℓ : Loc Cert.Kernel.nD Cert.Kernel.τ Cert.Kernel.sig) → Buf (Elt Bits) ℓ) (g : Dev Cert.Kernel.nD → PrngReg), Pre_Kernel_roll_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_4_Kernel [hKernel : Cert.Kernel.Facts] [hPre_roll_4_Kernel : Cert.Pre_roll_4_Kernel.Facts] : Prop :=
  ∀ (m : (ℓ : Loc Cert.Kernel.nD Cert.Kernel.τ Cert.Kernel.sig) → Buf (Elt Bits) ℓ) (g : Dev Cert.Kernel.nD → PrngReg), Pre_Kernel_roll_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_5_Kernel [hKernel : Cert.Kernel.Facts] [hPre_roll_5_Kernel : Cert.Pre_roll_5_Kernel.Facts] : Prop :=
  ∀ (m : (ℓ : Loc Cert.Kernel.nD Cert.Kernel.τ Cert.Kernel.sig) → Buf (Elt Bits) ℓ) (g : Dev Cert.Kernel.nD → PrngReg), Pre_Kernel_roll_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_6_Kernel [hKernel : Cert.Kernel.Facts] [hPre_roll_6_Kernel : Cert.Pre_roll_6_Kernel.Facts] : Prop :=
  ∀ (m : (ℓ : Loc Cert.Kernel.nD Cert.Kernel.τ Cert.Kernel.sig) → Buf (Elt Bits) ℓ) (g : Dev Cert.Kernel.nD → PrngReg), Pre_Kernel_roll_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_7_Kernel [hKernel : Cert.Kernel.Facts] [hPre_roll_7_Kernel : Cert.Pre_roll_7_Kernel.Facts] : Prop :=
  ∀ (m : (ℓ : Loc Cert.Kernel.nD Cert.Kernel.τ Cert.Kernel.sig) → Buf (Elt Bits) ℓ) (g : Dev Cert.Kernel.nD → PrngReg), Pre_Kernel_roll_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_roll_1_Kernel : Cert.Pre_roll_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_2_Kernel [hKernelIdeal : Cert.KernelIdeal.Facts] [hPre_roll_2_Kernel : Cert.Pre_roll_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_3_Kernel [hKernelIdeal : Cert.KernelIdeal.Facts] [hPre_roll_3_Kernel : Cert.Pre_roll_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_4_Kernel [hKernelIdeal : Cert.KernelIdeal.Facts] [hPre_roll_4_Kernel : Cert.Pre_roll_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_5_Kernel [hKernelIdeal : Cert.KernelIdeal.Facts] [hPre_roll_5_Kernel : Cert.Pre_roll_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_6_Kernel [hKernelIdeal : Cert.KernelIdeal.Facts] [hPre_roll_6_Kernel : Cert.Pre_roll_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_7_Kernel [hKernelIdeal : Cert.KernelIdeal.Facts] [hPre_roll_7_Kernel : Cert.Pre_roll_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_1_ReferenceIdeal [hReferenceIdeal : Cert.ReferenceIdeal.Facts] [hPre_roll_1_ReferenceIdeal : Cert.Pre_roll_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_2_ReferenceIdeal [hReferenceIdeal : Cert.ReferenceIdeal.Facts] [hPre_roll_2_ReferenceIdeal : Cert.Pre_roll_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_3_ReferenceIdeal [hReferenceIdeal : Cert.ReferenceIdeal.Facts] [hPre_roll_3_ReferenceIdeal : Cert.Pre_roll_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_4_ReferenceIdeal [hReferenceIdeal : Cert.ReferenceIdeal.Facts] [hPre_roll_4_ReferenceIdeal : Cert.Pre_roll_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_5_ReferenceIdeal [hReferenceIdeal : Cert.ReferenceIdeal.Facts] [hPre_roll_5_ReferenceIdeal : Cert.Pre_roll_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_6_ReferenceIdeal [hReferenceIdeal : Cert.ReferenceIdeal.Facts] [hPre_roll_6_ReferenceIdeal : Cert.Pre_roll_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_7_ReferenceIdeal [hReferenceIdeal : Cert.ReferenceIdeal.Facts] [hPre_roll_7_ReferenceIdeal : Cert.Pre_roll_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_roll_1_Kernel : Cert.Pre_roll_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_2_Kernel [hKernelIdeal : Cert.KernelIdeal.Facts] [hReferenceIdeal : Cert.ReferenceIdeal.Facts] [hPre_roll_2_Kernel : Cert.Pre_roll_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_2_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_3_Kernel [hKernelIdeal : Cert.KernelIdeal.Facts] [hReferenceIdeal : Cert.ReferenceIdeal.Facts] [hPre_roll_3_Kernel : Cert.Pre_roll_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_3_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_4_Kernel [hKernelIdeal : Cert.KernelIdeal.Facts] [hReferenceIdeal : Cert.ReferenceIdeal.Facts] [hPre_roll_4_Kernel : Cert.Pre_roll_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_4_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_5_Kernel [hKernelIdeal : Cert.KernelIdeal.Facts] [hReferenceIdeal : Cert.ReferenceIdeal.Facts] [hPre_roll_5_Kernel : Cert.Pre_roll_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_5_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_6_Kernel [hKernelIdeal : Cert.KernelIdeal.Facts] [hReferenceIdeal : Cert.ReferenceIdeal.Facts] [hPre_roll_6_Kernel : Cert.Pre_roll_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_6_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_7_Kernel [hKernelIdeal : Cert.KernelIdeal.Facts] [hReferenceIdeal : Cert.ReferenceIdeal.Facts] [hPre_roll_7_Kernel : Cert.Pre_roll_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_7_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_roll_1_Kernel : Cert.Pre_roll_1_Kernel.Facts) (hPre_roll_2_Kernel : Cert.Pre_roll_2_Kernel.Facts) (hPre_roll_3_Kernel : Cert.Pre_roll_3_Kernel.Facts) (hPre_roll_4_Kernel : Cert.Pre_roll_4_Kernel.Facts) (hPre_roll_5_Kernel : Cert.Pre_roll_5_Kernel.Facts) (hPre_roll_6_Kernel : Cert.Pre_roll_6_Kernel.Facts) (hPre_roll_7_Kernel : Cert.Pre_roll_7_Kernel.Facts) (hPre_roll_1_ReferenceIdeal : Cert.Pre_roll_1_ReferenceIdeal.Facts) (hPre_roll_2_ReferenceIdeal : Cert.Pre_roll_2_ReferenceIdeal.Facts) (hPre_roll_3_ReferenceIdeal : Cert.Pre_roll_3_ReferenceIdeal.Facts) (hPre_roll_4_ReferenceIdeal : Cert.Pre_roll_4_ReferenceIdeal.Facts) (hPre_roll_5_ReferenceIdeal : Cert.Pre_roll_5_ReferenceIdeal.Facts) (hPre_roll_6_ReferenceIdeal : Cert.Pre_roll_6_ReferenceIdeal.Facts) (hPre_roll_7_ReferenceIdeal : Cert.Pre_roll_7_ReferenceIdeal.Facts),
    quiescent_Kernel (hKernel := hKernel) (hPre_roll_1_Kernel := hPre_roll_1_Kernel)
    ∧ quiescent_Kernel_pre_roll_2_Kernel (hKernel := hKernel) (hPre_roll_2_Kernel := hPre_roll_2_Kernel)
    ∧ quiescent_Kernel_pre_roll_3_Kernel (hKernel := hKernel) (hPre_roll_3_Kernel := hPre_roll_3_Kernel)
    ∧ quiescent_Kernel_pre_roll_4_Kernel (hKernel := hKernel) (hPre_roll_4_Kernel := hPre_roll_4_Kernel)
    ∧ quiescent_Kernel_pre_roll_5_Kernel (hKernel := hKernel) (hPre_roll_5_Kernel := hPre_roll_5_Kernel)
    ∧ quiescent_Kernel_pre_roll_6_Kernel (hKernel := hKernel) (hPre_roll_6_Kernel := hPre_roll_6_Kernel)
    ∧ quiescent_Kernel_pre_roll_7_Kernel (hKernel := hKernel) (hPre_roll_7_Kernel := hPre_roll_7_Kernel)
    ∧ quiescent_KernelIdeal (hKernelIdeal := hKernelIdeal) (hPre_roll_1_Kernel := hPre_roll_1_Kernel)
    ∧ quiescent_KernelIdeal_pre_roll_2_Kernel (hKernelIdeal := hKernelIdeal) (hPre_roll_2_Kernel := hPre_roll_2_Kernel)
    ∧ quiescent_KernelIdeal_pre_roll_3_Kernel (hKernelIdeal := hKernelIdeal) (hPre_roll_3_Kernel := hPre_roll_3_Kernel)
    ∧ quiescent_KernelIdeal_pre_roll_4_Kernel (hKernelIdeal := hKernelIdeal) (hPre_roll_4_Kernel := hPre_roll_4_Kernel)
    ∧ quiescent_KernelIdeal_pre_roll_5_Kernel (hKernelIdeal := hKernelIdeal) (hPre_roll_5_Kernel := hPre_roll_5_Kernel)
    ∧ quiescent_KernelIdeal_pre_roll_6_Kernel (hKernelIdeal := hKernelIdeal) (hPre_roll_6_Kernel := hPre_roll_6_Kernel)
    ∧ quiescent_KernelIdeal_pre_roll_7_Kernel (hKernelIdeal := hKernelIdeal) (hPre_roll_7_Kernel := hPre_roll_7_Kernel)
    ∧ quiescent_ReferenceIdeal (hReferenceIdeal := hReferenceIdeal)
    ∧ quiescent_ReferenceIdeal_pre_roll_1_ReferenceIdeal (hReferenceIdeal := hReferenceIdeal) (hPre_roll_1_ReferenceIdeal := hPre_roll_1_ReferenceIdeal)
    ∧ quiescent_ReferenceIdeal_pre_roll_2_ReferenceIdeal (hReferenceIdeal := hReferenceIdeal) (hPre_roll_2_ReferenceIdeal := hPre_roll_2_ReferenceIdeal)
    ∧ quiescent_ReferenceIdeal_pre_roll_3_ReferenceIdeal (hReferenceIdeal := hReferenceIdeal) (hPre_roll_3_ReferenceIdeal := hPre_roll_3_ReferenceIdeal)
    ∧ quiescent_ReferenceIdeal_pre_roll_4_ReferenceIdeal (hReferenceIdeal := hReferenceIdeal) (hPre_roll_4_ReferenceIdeal := hPre_roll_4_ReferenceIdeal)
    ∧ quiescent_ReferenceIdeal_pre_roll_5_ReferenceIdeal (hReferenceIdeal := hReferenceIdeal) (hPre_roll_5_ReferenceIdeal := hPre_roll_5_ReferenceIdeal)
    ∧ quiescent_ReferenceIdeal_pre_roll_6_ReferenceIdeal (hReferenceIdeal := hReferenceIdeal) (hPre_roll_6_ReferenceIdeal := hPre_roll_6_ReferenceIdeal)
    ∧ quiescent_ReferenceIdeal_pre_roll_7_ReferenceIdeal (hReferenceIdeal := hReferenceIdeal) (hPre_roll_7_ReferenceIdeal := hPre_roll_7_ReferenceIdeal)
    ∧ preserves_Kernel_KernelIdeal
    ∧ algebraic_KernelIdeal_ReferenceIdeal (hKernelIdeal := hKernelIdeal) (hReferenceIdeal := hReferenceIdeal) (hPre_roll_1_Kernel := hPre_roll_1_Kernel)
    ∧ algebraic_KernelIdeal_ReferenceIdeal_pre_roll_2_Kernel (hKernelIdeal := hKernelIdeal) (hReferenceIdeal := hReferenceIdeal) (hPre_roll_2_Kernel := hPre_roll_2_Kernel)
    ∧ algebraic_KernelIdeal_ReferenceIdeal_pre_roll_3_Kernel (hKernelIdeal := hKernelIdeal) (hReferenceIdeal := hReferenceIdeal) (hPre_roll_3_Kernel := hPre_roll_3_Kernel)
    ∧ algebraic_KernelIdeal_ReferenceIdeal_pre_roll_4_Kernel (hKernelIdeal := hKernelIdeal) (hReferenceIdeal := hReferenceIdeal) (hPre_roll_4_Kernel := hPre_roll_4_Kernel)
    ∧ algebraic_KernelIdeal_ReferenceIdeal_pre_roll_5_Kernel (hKernelIdeal := hKernelIdeal) (hReferenceIdeal := hReferenceIdeal) (hPre_roll_5_Kernel := hPre_roll_5_Kernel)
    ∧ algebraic_KernelIdeal_ReferenceIdeal_pre_roll_6_Kernel (hKernelIdeal := hKernelIdeal) (hReferenceIdeal := hReferenceIdeal) (hPre_roll_6_Kernel := hPre_roll_6_Kernel)
    ∧ algebraic_KernelIdeal_ReferenceIdeal_pre_roll_7_Kernel (hKernelIdeal := hKernelIdeal) (hReferenceIdeal := hReferenceIdeal) (hPre_roll_7_Kernel := hPre_roll_7_Kernel)
-- ==== Pre_roll_1_Kernel.lean ====
abbrev S1x1024x1024 : Shape := ⟨3, ![1, 1024, 1024]⟩
abbrev S8 : Shape := ⟨1, ![8]⟩
abbrev S1 : Shape := ⟨1, ![1]⟩
abbrev S7 : Shape := ⟨1, ![7]⟩

class Facts : Prop where
  slices_S8_S1_7 : S8.Slices ![7] S1
  slices_S8_S7_0 : S8.Slices ![0] S7
  concatenates_S1_S7_S8_d0 : Shape.Concatenates [S1, S7] S8 0

variable [Facts]

def fn_roll_static {F : FTy → Type} [FloatOps F] (arg0 : IVec S8 32) : IVec S8 32 :=
  let v0 : IVec S1 32 := (extractStridedSlice S1 ![7] · slices_S8_S1_7) arg0
  let v1 : IVec S7 32 := (extractStridedSlice S7 ![0] · slices_S8_S7_0) arg0
  let v2 : IVec S8 32 := (fun a b => concatenate S8 0 [⟨S1, a⟩, ⟨S7, b⟩] concatenates_S1_S7_S8_d0) v0 v1
  v2

def fn {F : FTy → Type} [FloatOps F] (main_arg0 : FVec F S1x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_1_ReferenceIdeal.lean ====
abbrev S8x1024x1024 : Shape := ⟨3, ![8, 1024, 1024]⟩
abbrev S8 : Shape := ⟨1, ![8]⟩
abbrev S1 : Shape := ⟨1, ![1]⟩
abbrev S7 : Shape := ⟨1, ![7]⟩

class Facts : Prop where
  slices_S8_S1_7 : S8.Slices ![7] S1
  slices_S8_S7_0 : S8.Slices ![0] S7
  concatenates_S1_S7_S8_d0 : Shape.Concatenates [S1, S7] S8 0

variable [Facts]

def fn_roll_static {F : FTy → Type} [FloatOps F] (arg0 : IVec S8 32) : IVec S8 32 :=
  let v0 : IVec S1 32 := (extractStridedSlice S1 ![7] · slices_S8_S1_7) arg0
  let v1 : IVec S7 32 := (extractStridedSlice S7 ![0] · slices_S8_S7_0) arg0
  let v2 : IVec S8 32 := (fun a b => concatenate S8 0 [⟨S1, a⟩, ⟨S7, b⟩] concatenates_S1_S7_S8_d0) v0 v1
  v2

def fn {F : FTy → Type} [FloatOps F] (main_arg0 : FVec F S8x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_2_Kernel.lean ====
abbrev S1x1024x1024 : Shape := ⟨3, ![1, 1024, 1024]⟩
abbrev S8 : Shape := ⟨1, ![8]⟩
abbrev S2 : Shape := ⟨1, ![2]⟩
abbrev S6 : Shape := ⟨1, ![6]⟩

class Facts : Prop where
  slices_S8_S2_6 : S8.Slices ![6] S2
  slices_S8_S6_0 : S8.Slices ![0] S6
  concatenates_S2_S6_S8_d0 : Shape.Concatenates [S2, S6] S8 0

variable [Facts]

def fn_roll_static {F : FTy → Type} [FloatOps F] (arg0 : IVec S8 32) : IVec S8 32 :=
  let v0 : IVec S2 32 := (extractStridedSlice S2 ![6] · slices_S8_S2_6) arg0
  let v1 : IVec S6 32 := (extractStridedSlice S6 ![0] · slices_S8_S6_0) arg0
  let v2 : IVec S8 32 := (fun a b => concatenate S8 0 [⟨S2, a⟩, ⟨S6, b⟩] concatenates_S2_S6_S8_d0) v0 v1
  v2

def fn {F : FTy → Type} [FloatOps F] (main_arg0 : FVec F S1x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_2_ReferenceIdeal.lean ====
abbrev S8x1024x1024 : Shape := ⟨3, ![8, 1024, 1024]⟩
abbrev S8 : Shape := ⟨1, ![8]⟩
abbrev S2 : Shape := ⟨1, ![2]⟩
abbrev S6 : Shape := ⟨1, ![6]⟩

class Facts : Prop where
  slices_S8_S2_6 : S8.Slices ![6] S2
  slices_S8_S6_0 : S8.Slices ![0] S6
  concatenates_S2_S6_S8_d0 : Shape.Concatenates [S2, S6] S8 0

variable [Facts]

def fn_roll_static {F : FTy → Type} [FloatOps F] (arg0 : IVec S8 32) : IVec S8 32 :=
  let v0 : IVec S2 32 := (extractStridedSlice S2 ![6] · slices_S8_S2_6) arg0
  let v1 : IVec S6 32 := (extractStridedSlice S6 ![0] · slices_S8_S6_0) arg0
  let v2 : IVec S8 32 := (fun a b => concatenate S8 0 [⟨S2, a⟩, ⟨S6, b⟩] concatenates_S2_S6_S8_d0) v0 v1
  v2

def fn {F : FTy → Type} [FloatOps F] (main_arg0 : FVec F S8x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_3_Kernel.lean ====
abbrev S1x1024x1024 : Shape := ⟨3, ![1, 1024, 1024]⟩
abbrev S8 : Shape := ⟨1, ![8]⟩
abbrev S3 : Shape := ⟨1, ![3]⟩
abbrev S5 : Shape := ⟨1, ![5]⟩

class Facts : Prop where
  slices_S8_S3_5 : S8.Slices ![5] S3
  slices_S8_S5_0 : S8.Slices ![0] S5
  concatenates_S3_S5_S8_d0 : Shape.Concatenates [S3, S5] S8 0

variable [Facts]

def fn_roll_static {F : FTy → Type} [FloatOps F] (arg0 : IVec S8 32) : IVec S8 32 :=
  let v0 : IVec S3 32 := (extractStridedSlice S3 ![5] · slices_S8_S3_5) arg0
  let v1 : IVec S5 32 := (extractStridedSlice S5 ![0] · slices_S8_S5_0) arg0
  let v2 : IVec S8 32 := (fun a b => concatenate S8 0 [⟨S3, a⟩, ⟨S5, b⟩] concatenates_S3_S5_S8_d0) v0 v1
  v2

def fn {F : FTy → Type} [FloatOps F] (main_arg0 : FVec F S1x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_3_ReferenceIdeal.lean ====
abbrev S8x1024x1024 : Shape := ⟨3, ![8, 1024, 1024]⟩
abbrev S8 : Shape := ⟨1, ![8]⟩
abbrev S3 : Shape := ⟨1, ![3]⟩
abbrev S5 : Shape := ⟨1, ![5]⟩

class Facts : Prop where
  slices_S8_S3_5 : S8.Slices ![5] S3
  slices_S8_S5_0 : S8.Slices ![0] S5
  concatenates_S3_S5_S8_d0 : Shape.Concatenates [S3, S5] S8 0

variable [Facts]

def fn_roll_static {F : FTy → Type} [FloatOps F] (arg0 : IVec S8 32) : IVec S8 32 :=
  let v0 : IVec S3 32 := (extractStridedSlice S3 ![5] · slices_S8_S3_5) arg0
  let v1 : IVec S5 32 := (extractStridedSlice S5 ![0] · slices_S8_S5_0) arg0
  let v2 : IVec S8 32 := (fun a b => concatenate S8 0 [⟨S3, a⟩, ⟨S5, b⟩] concatenates_S3_S5_S8_d0) v0 v1
  v2

def fn {F : FTy → Type} [FloatOps F] (main_arg0 : FVec F S8x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_4_Kernel.lean ====
abbrev S1x1024x1024 : Shape := ⟨3, ![1, 1024, 1024]⟩
abbrev S8 : Shape := ⟨1, ![8]⟩
abbrev S4 : Shape := ⟨1, ![4]⟩

class Facts : Prop where
  slices_S8_S4_4 : S8.Slices ![4] S4
  slices_S8_S4_0 : S8.Slices ![0] S4
  concatenates_S4_S4_S8_d0 : Shape.Concatenates [S4, S4] S8 0

variable [Facts]

def fn_roll_static {F : FTy → Type} [FloatOps F] (arg0 : IVec S8 32) : IVec S8 32 :=
  let v0 : IVec S4 32 := (extractStridedSlice S4 ![4] · slices_S8_S4_4) arg0
  let v1 : IVec S4 32 := (extractStridedSlice S4 ![0] · slices_S8_S4_0) arg0
  let v2 : IVec S8 32 := (fun a b => concatenate S8 0 [⟨S4, a⟩, ⟨S4, b⟩] concatenates_S4_S4_S8_d0) v0 v1
  v2

def fn {F : FTy → Type} [FloatOps F] (main_arg0 : FVec F S1x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_4_ReferenceIdeal.lean ====
abbrev S8x1024x1024 : Shape := ⟨3, ![8, 1024, 1024]⟩
abbrev S8 : Shape := ⟨1, ![8]⟩
abbrev S4 : Shape := ⟨1, ![4]⟩

class Facts : Prop where
  slices_S8_S4_4 : S8.Slices ![4] S4
  slices_S8_S4_0 : S8.Slices ![0] S4
  concatenates_S4_S4_S8_d0 : Shape.Concatenates [S4, S4] S8 0

variable [Facts]

def fn_roll_static {F : FTy → Type} [FloatOps F] (arg0 : IVec S8 32) : IVec S8 32 :=
  let v0 : IVec S4 32 := (extractStridedSlice S4 ![4] · slices_S8_S4_4) arg0
  let v1 : IVec S4 32 := (extractStridedSlice S4 ![0] · slices_S8_S4_0) arg0
  let v2 : IVec S8 32 := (fun a b => concatenate S8 0 [⟨S4, a⟩, ⟨S4, b⟩] concatenates_S4_S4_S8_d0) v0 v1
  v2

def fn {F : FTy → Type} [FloatOps F] (main_arg0 : FVec F S8x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_5_Kernel.lean ====
abbrev S1x1024x1024 : Shape := ⟨3, ![1, 1024, 1024]⟩
abbrev S8 : Shape := ⟨1, ![8]⟩
abbrev S5 : Shape := ⟨1, ![5]⟩
abbrev S3 : Shape := ⟨1, ![3]⟩

class Facts : Prop where
  slices_S8_S5_3 : S8.Slices ![3] S5
  slices_S8_S3_0 : S8.Slices ![0] S3
  concatenates_S5_S3_S8_d0 : Shape.Concatenates [S5, S3] S8 0

variable [Facts]

def fn_roll_static {F : FTy → Type} [FloatOps F] (arg0 : IVec S8 32) : IVec S8 32 :=
  let v0 : IVec S5 32 := (extractStridedSlice S5 ![3] · slices_S8_S5_3) arg0
  let v1 : IVec S3 32 := (extractStridedSlice S3 ![0] · slices_S8_S3_0) arg0
  let v2 : IVec S8 32 := (fun a b => concatenate S8 0 [⟨S5, a⟩, ⟨S3, b⟩] concatenates_S5_S3_S8_d0) v0 v1
  v2

def fn {F : FTy → Type} [FloatOps F] (main_arg0 : FVec F S1x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_5_ReferenceIdeal.lean ====
abbrev S8x1024x1024 : Shape := ⟨3, ![8, 1024, 1024]⟩
abbrev S8 : Shape := ⟨1, ![8]⟩
abbrev S5 : Shape := ⟨1, ![5]⟩
abbrev S3 : Shape := ⟨1, ![3]⟩

class Facts : Prop where
  slices_S8_S5_3 : S8.Slices ![3] S5
  slices_S8_S3_0 : S8.Slices ![0] S3
  concatenates_S5_S3_S8_d0 : Shape.Concatenates [S5, S3] S8 0

variable [Facts]

def fn_roll_static {F : FTy → Type} [FloatOps F] (arg0 : IVec S8 32) : IVec S8 32 :=
  let v0 : IVec S5 32 := (extractStridedSlice S5 ![3] · slices_S8_S5_3) arg0
  let v1 : IVec S3 32 := (extractStridedSlice S3 ![0] · slices_S8_S3_0) arg0
  let v2 : IVec S8 32 := (fun a b => concatenate S8 0 [⟨S5, a⟩, ⟨S3, b⟩] concatenates_S5_S3_S8_d0) v0 v1
  v2

def fn {F : FTy → Type} [FloatOps F] (main_arg0 : FVec F S8x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_6_Kernel.lean ====
abbrev S1x1024x1024 : Shape := ⟨3, ![1, 1024, 1024]⟩
abbrev S8 : Shape := ⟨1, ![8]⟩
abbrev S6 : Shape := ⟨1, ![6]⟩
abbrev S2 : Shape := ⟨1, ![2]⟩

class Facts : Prop where
  slices_S8_S6_2 : S8.Slices ![2] S6
  slices_S8_S2_0 : S8.Slices ![0] S2
  concatenates_S6_S2_S8_d0 : Shape.Concatenates [S6, S2] S8 0

variable [Facts]

def fn_roll_static {F : FTy → Type} [FloatOps F] (arg0 : IVec S8 32) : IVec S8 32 :=
  let v0 : IVec S6 32 := (extractStridedSlice S6 ![2] · slices_S8_S6_2) arg0
  let v1 : IVec S2 32 := (extractStridedSlice S2 ![0] · slices_S8_S2_0) arg0
  let v2 : IVec S8 32 := (fun a b => concatenate S8 0 [⟨S6, a⟩, ⟨S2, b⟩] concatenates_S6_S2_S8_d0) v0 v1
  v2

def fn {F : FTy → Type} [FloatOps F] (main_arg0 : FVec F S1x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_6_ReferenceIdeal.lean ====
abbrev S8x1024x1024 : Shape := ⟨3, ![8, 1024, 1024]⟩
abbrev S8 : Shape := ⟨1, ![8]⟩
abbrev S6 : Shape := ⟨1, ![6]⟩
abbrev S2 : Shape := ⟨1, ![2]⟩

class Facts : Prop where
  slices_S8_S6_2 : S8.Slices ![2] S6
  slices_S8_S2_0 : S8.Slices ![0] S2
  concatenates_S6_S2_S8_d0 : Shape.Concatenates [S6, S2] S8 0

variable [Facts]

def fn_roll_static {F : FTy → Type} [FloatOps F] (arg0 : IVec S8 32) : IVec S8 32 :=
  let v0 : IVec S6 32 := (extractStridedSlice S6 ![2] · slices_S8_S6_2) arg0
  let v1 : IVec S2 32 := (extractStridedSlice S2 ![0] · slices_S8_S2_0) arg0
  let v2 : IVec S8 32 := (fun a b => concatenate S8 0 [⟨S6, a⟩, ⟨S2, b⟩] concatenates_S6_S2_S8_d0) v0 v1
  v2

def fn {F : FTy → Type} [FloatOps F] (main_arg0 : FVec F S8x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_7_Kernel.lean ====
abbrev S1x1024x1024 : Shape := ⟨3, ![1, 1024, 1024]⟩
abbrev S8 : Shape := ⟨1, ![8]⟩
abbrev S7 : Shape := ⟨1, ![7]⟩
abbrev S1 : Shape := ⟨1, ![1]⟩

class Facts : Prop where
  slices_S8_S7_1 : S8.Slices ![1] S7
  slices_S8_S1_0 : S8.Slices ![0] S1
  concatenates_S7_S1_S8_d0 : Shape.Concatenates [S7, S1] S8 0

variable [Facts]

def fn_roll_static {F : FTy → Type} [FloatOps F] (arg0 : IVec S8 32) : IVec S8 32 :=
  let v0 : IVec S7 32 := (extractStridedSlice S7 ![1] · slices_S8_S7_1) arg0
  let v1 : IVec S1 32 := (extractStridedSlice S1 ![0] · slices_S8_S1_0) arg0
  let v2 : IVec S8 32 := (fun a b => concatenate S8 0 [⟨S7, a⟩, ⟨S1, b⟩] concatenates_S7_S1_S8_d0) v0 v1
  v2

def fn {F : FTy → Type} [FloatOps F] (main_arg0 : FVec F S1x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_roll_7_ReferenceIdeal.lean ====
abbrev S8x1024x1024 : Shape := ⟨3, ![8, 1024, 1024]⟩
abbrev S8 : Shape := ⟨1, ![8]⟩
abbrev S7 : Shape := ⟨1, ![7]⟩
abbrev S1 : Shape := ⟨1, ![1]⟩

class Facts : Prop where
  slices_S8_S7_1 : S8.Slices ![1] S7
  slices_S8_S1_0 : S8.Slices ![0] S1
  concatenates_S7_S1_S8_d0 : Shape.Concatenates [S7, S1] S8 0

variable [Facts]

def fn_roll_static {F : FTy → Type} [FloatOps F] (arg0 : IVec S8 32) : IVec S8 32 :=
  let v0 : IVec S7 32 := (extractStridedSlice S7 ![1] · slices_S8_S7_1) arg0
  let v1 : IVec S1 32 := (extractStridedSlice S1 ![0] · slices_S8_S1_0) arg0
  let v2 : IVec S8 32 := (fun a b => concatenate S8 0 [⟨S7, a⟩, ⟨S1, b⟩] concatenates_S7_S1_S8_d0) v0 v1
  v2

def fn {F : FTy → Type} [FloatOps F] (main_arg0 : FVec F S8x1024x1024 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Kernel.lean ====
abbrev S1x1024x1024 : Shape := ⟨3, ![1, 1024, 1024]⟩
abbrev S8 : Shape := ⟨1, ![8]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x1024x1024, .bf16⟩
  | .hbm, ⟨1, _⟩ => ⟨S8, .i32⟩
  | .hbm, ⟨2, _⟩ => ⟨S1x1024x1024, .bf16⟩
  | .local _ .vmem, ⟨0, _⟩ => ⟨S1x1024x1024, .bf16⟩
  | .local _ .vmem, ⟨1, _⟩ => ⟨S1x1024x1024, .bf16⟩
  | .local _ .smem, ⟨0, _⟩ => ⟨S8, .i32⟩
  | _, _ => ⟨S1x1024x1024, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : Index := Scalar.indexCast v2
  ![v3.toNat]
def k0_dev1 (d0 : Dev nD) (v5 : BitVec 32) (v8 : BitVec 32) (v11 : BitVec 32) (v14 : BitVec 32) (v17 : BitVec 32) (v20 : BitVec 32) (v23 : BitVec 32) (v26 : BitVec 32) : Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v27 : BitVec 1 := Scalar.cmpi .eq v26 v2
  let c7_i32 : BitVec 32 := 7#32
  let v24 : BitVec 1 := Scalar.cmpi .eq v23 v2
  let c6_i32 : BitVec 32 := 6#32
  let v21 : BitVec 1 := Scalar.cmpi .eq v20 v2
  let c5_i32 : BitVec 32 := 5#32
  let v18 : BitVec 1 := Scalar.cmpi .eq v17 v2
  let c4_i32 : BitVec 32 := 4#32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let v19 : BitVec 32 := Scalar.select v18 c4_i32 v16
  let v22 : BitVec 32 := Scalar.select v21 c5_i32 v19
  let v25 : BitVec 32 := Scalar.select v24 c6_i32 v22
  let v28 : BitVec 32 := Scalar.select v27 c7_i32 v25
  let c1_i32_3 : BitVec 32 := 1#32
  let v30 : BitVec 32 := Scalar.muli v28 c1_i32_3
  let v31 : BitVec 32 := Scalar.addi c0_i32_4 v30
  v31.toNat

def k0_chk1 (d0 : Dev nD) (v5 : BitVec 32) (v8 : BitVec 32) (v11 : BitVec 32) (v14 : BitVec 32) (v17 : BitVec 32) (v20 : BitVec 32) (v23 : BitVec 32) (v26 : BitVec 32) : Prop :=
  ((k0_dev1 d0 v5 v8 v11 v14 v17 v20 v23 v26) < nD)
theorem k0_dev1_lt : ∀ (d0 : Dev nD) (v5 : BitVec 32) (v8 : BitVec 32) (v11 : BitVec 32) (v14 : BitVec 32) (v17 : BitVec 32) (v20 : BitVec 32) (v23 : BitVec 32) (v26 : BitVec 32) (k0_hw1 : k0_chk1 d0 v5 v8 v11 v14 v17 v20 v23 v26), (k0_dev1 d0 v5 v8 v11 v14 v17 v20 v23 v26) < nD := fun d0 v5 v8 v11 v14 v17 v20 v23 v26 k0_hw1 => k0_hw1

def k0_dev2 (v4 : BitVec 32) : Nat :=
  let c0_i32_7 : BitVec 32 := 0#32
  let c1_i32_6 : BitVec 32 := 1#32
  let v32 : BitVec 32 := Scalar.muli v4 c1_i32_6
  let v33 : BitVec 32 := Scalar.addi c0_i32_7 v32
  v33.toNat

def k0_chk2 (v4 : BitVec 32) : Prop :=
  ((k0_dev2 v4) < nD)
theorem k0_dev2_lt : ∀ (v4 : BitVec 32) (k0_hw2 : k0_chk2 v4), (k0_dev2 v4) < nD := fun v4 k0_hw2 => k0_hw2

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x1024x1024 : Shape := ⟨3, ![8, 1024, 1024]⟩
abbrev S8 : Shape := ⟨1, ![8]⟩
abbrev S_ : Shape := ⟨0, ![]⟩
abbrev S8x1 : Shape := ⟨2, ![8, 1]⟩

abbrev nBuf : Space → Nat
  | .hbm => 16
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8, .i32⟩
  | .hbm, ⟨2, _⟩ => ⟨S8, .i32⟩
  | .hbm, ⟨3, _⟩ => ⟨S8, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x1024x1024, .bf16⟩
  | .hbm, ⟨14, _⟩ => ⟨S8x1024x1024, .f32⟩
  | .hbm, ⟨15, _⟩ => ⟨S8x1024x1024, .bf16⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Table.lean ====
/-
# The permutation table: what each device reads in its copy of `pi`, and where it sends

Throughout, `σ` is the permutation that `pi` spells: device `c` sends its block to `σ c` and receives the
block of `σ⁻¹ c`. `Agrees m σ` says that every device's copy of `pi` holds the words `σ 0, …, σ 7`. The body
reads `pi` nine times: its own word (the destination) and all eight in turn (the search for the source).
This module turns these reads into `σ c` and `σ⁻¹ c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Tactic

@[expose] public section

noncomputable section

namespace Cert.Permute

open Cert.KernelIdeal Cert.KernelIdeal.Gen
open Idealize.ShloMosaic Idealize.ShloMosaic.TcCoe

variable {F : FTy → Type} [FloatOps F]
variable (m : (ℓ : Loc nD τ sig) → Buf (Elt F) ℓ)

/-- Position `j` of the eight-word table. -/
def pos (j : Dev nD) : S8.Idx := fun a => ⟨j.val, by fin_cases a; exact j.isLt⟩

/-- Every device's copy of `pi` spells the permutation `σ`. -/
def Agrees (σ : Equiv.Perm (Dev nD)) : Prop :=
  ∀ c j : Dev nD, (m ((c : Thread nD τ).loc main_arg1) : IVec S8 32) (pos j) = BitVec.ofNat 32 (σ j).val

/-- Device `c`'s copy of `pi` as its staging buffer holds it. -/
def piBlock (c : Dev nD) : (cc0_stg0_0 : Ref sig .tc).ty.Contents (Elt F) :=
  (win0_0.blk (0 : Fin 1)).view.read (Elt F) (m ((c : Thread nD τ).loc main_arg1))

/-- Device `c`'s block of `x` as its staging buffer holds it. -/
def xBlock (c : Dev nD) : (cc0_stg1_0 : Ref sig .tc).ty.Contents (Elt F) :=
  (win0_1.blk (0 : Fin 1)).view.read (Elt F) (m ((c : Thread nD τ).loc main_arg0))

omit [FloatOps F] in
/-- The staged block of `x` is the whole local array: the region has one point and no cut. -/
theorem xBlock_eq (c : Dev nD) : xBlock m c = m ((c : Thread nD τ).loc main_arg0) := by
  unfold xBlock
  funext i
  show m ((c : Thread nD τ).loc main_arg0) _ = m ((c : Thread nD τ).loc main_arg0) i
  refine congrArg _ (funext fun a => Fin.ext ?_)
  fin_cases a
  · show 0 * 1 + 1 * (i 0).val = (i 0).val; omega
  · show 0 * 1024 + 1 * (i 1).val = (i 1).val; omega
  · show 0 * 1024 + 1 * (i 2).val = (i 2).val; omega

omit [FloatOps F] in
/-- The same of the table. -/
theorem piBlock_eq (c : Dev nD) : piBlock m c = m ((c : Thread nD τ).loc main_arg1) := by
  unfold piBlock
  funext i
  show m ((c : Thread nD τ).loc main_arg1) _ = m ((c : Thread nD τ).loc main_arg1) i
  refine congrArg _ (funext fun a => Fin.ext ?_)
  fin_cases a
  show 0 * 8 + 1 * (i 0).val = (i 0).val; omega

/-- The word that a one-word load at offset `off` finds in a table `t`. -/
abbrev wordAt (off : Fin 1 → Nat) (h : ∀ a, off a + S1.size a ≤ S8.size a) (t : (cc0_stg0_0 : Ref sig .tc).ty.Contents (Elt F)) : BitVec 32 :=
  ((Memref.whole cc0_stg0_0).access (Rect.unit (s := S8) off S1.size h) : View sig .tc _ _ _).read (Elt F) t
    (Shape.Idx.first (s := S1) (numel1_S1.symm ▸ Nat.one_pos))

omit [FloatOps F] in
theorem wordAt_eq (off : Fin 1 → Nat) (h : ∀ a, off a + S1.size a ≤ S8.size a) (t : (cc0_stg0_0 : Ref sig .tc).ty.Contents (Elt F))
    (j : Dev nD) (hj : off 0 = j.val) : wordAt off h t = t (pos j) := by
  show t _ = t (pos j)
  refine congrArg t (funext fun a => Fin.ext ?_)
  fin_cases a
  show off 0 + 1 * 0 = j.val
  omega

variable {m} {σ : Equiv.Perm (Dev nD)}

omit [FloatOps F] in
/-- A load at offset `j` yields `σ j`. -/
theorem Agrees.word (h : Agrees m σ) (c j : Dev nD) (off : Fin 1 → Nat) (hoff : ∀ a, off a + S1.size a ≤ S8.size a)
    (hj : off 0 = j.val) : wordAt off hoff (piBlock m c) = BitVec.ofNat 32 (σ j).val := by
  rw [wordAt_eq off hoff _ j hj, piBlock_eq]; exact h c j

omit [FloatOps F] in
/-- A load at the device's own offset yields `σ c`. -/
theorem Agrees.own (h : Agrees m σ) (c : Dev nD) : wordAt (k0_off1 c) (k0_off1_inb c) (piBlock m c) = BitVec.ofNat 32 (σ c).val :=
  h.word c c _ _ (by rw [k0_off1_eq]; rfl)

/-- The transfer's device id, computed from the word `d`, is `d`. -/
theorem dest_word (d : Dev nD) : k0_dev2 (BitVec.ofNat 32 d.val) = d.val := by revert d; decide

/-- A word naming a device passes the transfer's check. -/
theorem dest_chk (d : Dev nD) : k0_chk2 (BitVec.ofNat 32 d.val) := by
  show k0_dev2 _ < nD; rw [dest_word]; exact d.isLt

/-- One step of the search: the word `a` is compared with the device's own id. -/
theorem search_step (a c : Dev nD) :
    Scalar.cmpi .eq (BitVec.ofNat 32 a.val) (Scalar.remsi (Scalar.divsi (Dev.word c) 1#32) 8#32) = if a = c then 1#1 else 0#1 := by
  revert a c; decide

/-- The select chain keeps the one position that matched. -/
theorem search_chain (e : Dev nD) :
    (Scalar.addi 0#32 (Scalar.muli (Scalar.select (if (7 : Dev nD) = e then 1#1 else 0#1) 7#32
      (Scalar.select (if (6 : Dev nD) = e then 1#1 else 0#1) 6#32 (Scalar.select (if (5 : Dev nD) = e then 1#1 else 0#1) 5#32
      (Scalar.select (if (4 : Dev nD) = e then 1#1 else 0#1) 4#32 (Scalar.select (if (3 : Dev nD) = e then 1#1 else 0#1) 3#32
      (Scalar.select (if (2 : Dev nD) = e then 1#1 else 0#1) 2#32 (Scalar.select (if (1 : Dev nD) = e then 1#1 else 0#1) 1#32
      (Scalar.select (if (0 : Dev nD) = e then 1#1 else 0#1) 0#32 0#32)))))))) 1#32)).toNat = e.val := by
  revert e; decide

/-- The search over all eight words ends at `σ⁻¹ c`: the signal goes to the device whose block comes here. -/
theorem source_words (σ : Equiv.Perm (Dev nD)) (c : Dev nD) :
    k0_dev1 c (BitVec.ofNat 32 (σ 0).val) (BitVec.ofNat 32 (σ 1).val) (BitVec.ofNat 32 (σ 2).val) (BitVec.ofNat 32 (σ 3).val)
      (BitVec.ofNat 32 (σ 4).val) (BitVec.ofNat 32 (σ 5).val) (BitVec.ofNat 32 (σ 6).val) (BitVec.ofNat 32 (σ 7).val) = (σ.symm c).val := by
  unfold k0_dev1
  simp only [search_step, Equiv.apply_eq_iff_eq_symm_apply]
  exact search_chain (σ.symm c)

end Cert.Permute

end
-- ==== Proof.Protocol.lean ====
/-
# The protocol: three cells per device, one payment each

* The BARRIER cell of `c` is paid once, one unit, by `σ c`. The payment hands `c` the output buffer of
  `σ c`, whatever it holds: the transfer may now write there.
* The RECEIVE cell of `c` is paid once, by the transfer that comes in from `σ⁻¹ c`. The payment hands `c` its own
  output buffer back, now holding the block of `σ⁻¹ c`.
* The SEND cell of `c` is paid once, by `c`'s own outgoing transfer, and hands back the block of `x` that was read.

At launch a device owes its source's barrier one unit and its destination's receive cell one block. It waits on
the barrier while it still owes the second of these, so receive cells lie above barrier cells, and barrier cells
above the cells of the pipeline's own copies.
-/
module

public import proofs.«01_k».proof.Proof.Table
public import Idealize.ShloMosaic.Lib.Pipeline.Launch

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline's part and the protocol's -/

/-- Two independent copies of the rounds algebra: one for the staging copies, one for the protocol's cells. -/
abbrev Ghost : Type := UR sig nD τ × URounds (GSem nD τ sig) Unit

local notation "𝕄" => MT nD τ sig Unit (Elt F) ℕ Ghost ℕ

abbrev pipeEmb : Emb (UR sig nD τ) (MT nD τ sig Unit (Elt F) ℕ Ghost ℕ) := embL
abbrev cellEmb : Emb (URounds (GSem nD τ sig) Unit) (MT nD τ sig Unit (Elt F) ℕ Ghost ℕ) := embR

variable (m : (ℓ : Loc nD τ sig) → Buf (Elt F) ℓ) (σ : Equiv.Perm (Dev nD))

/-! ## Cells -/

/-- The semaphores of the three roles: 0 the runtime's barrier, 1 send, 2 receive. -/
abbrev role : Fin 3 → SemLoc sig
  | 0 => .reg (SemArray.scalar (sig.barrier 0 rfl) : Sems sig S_).sem
  | 1 => .dma (cc0_scratch0 : DmaSems sig S_).sem
  | 2 => .dma (cc0_scratch1 : DmaSems sig S_).sem

/-- Device `c`'s cell in role `k`. -/
abbrev cell (c : Dev nD) (k : Fin 3) : GSem nD τ sig := ((c : Thread nD τ), role k)

theorem role_inj : Function.Injective role := by
  intro a b h
  fin_cases a <;> fin_cases b <;> first | rfl | exact absurd h (by decide)

theorem cell_inj : Function.Injective (fun ck : Dev nD × Fin 3 => cell ck.1 ck.2) := by
  rintro ⟨c, k⟩ ⟨c', k'⟩ h
  have hc : c = c' := congrArg (fun g : GSem nD τ sig => g.1.1) h
  have hk : k = k' := role_inj (congrArg Prod.snd h)
  rw [hc, hk]

theorem role_ne (c : Dev nD) {k k' : Fin 3} (h : k ≠ k') : (cell c k).2 ≠ role k' := fun e => h (role_inj e)

theorem cell_eq_iff {a b : Dev nD} {k k' : Fin 3} : cell a k = cell b k' ↔ a = b ∧ k = k' :=
  ⟨fun h => by have := @cell_inj (a, k) (b, k') h; exact ⟨congrArg Prod.fst this, congrArg Prod.snd this⟩, fun h => by rw [h.1, h.2]⟩

/-! ## Buffers -/

abbrev xMem : Memref sig .tc .vmem S1x1024x1024 .bf16 := Memref.whole cc0_stg1_0
abbrev oMem : Memref sig .tc .vmem S1x1024x1024 .bf16 := Memref.whole cc0_stg2_0

/-- What one block's transfer credits to a cell. -/
abbrev credit : ℕ := (oMem : Memref sig .tc .vmem S1x1024x1024 .bf16).view.dmaCredit
theorem credit_pos : 0 < credit := View.dmaCredit_pos _ (by decide)

/-- Device `c` holds its staged `x` block, whole. -/
def holdsX (c : Dev nD) : sProp 𝕄 :=
  (xMem : Memref sig .tc .vmem S1x1024x1024 .bf16).view.loc (c : Thread nD τ) ↦[(xMem : Memref sig .tc .vmem S1x1024x1024 .bf16).view.set]{fullShare} xBlock m c

/-- Device `c`'s output buffer, whole, at contents `f`. -/
def outBuf (c : Dev nD) (f : Buf (Elt F) ((oMem : Memref sig .tc .vmem S1x1024x1024 .bf16).view.loc (c : Thread nD τ))) : sProp 𝕄 :=
  (oMem : Memref sig .tc .vmem S1x1024x1024 .bf16).view.loc (c : Thread nD τ) ↦[(oMem : Memref sig .tc .vmem S1x1024x1024 .bf16).view.set]{fullShare} f

/-- The block that reaches device `c`: `x`'s block of `σ⁻¹ c`. -/
def arrived (c : Dev nD) : Buf (Elt F) ((oMem : Memref sig .tc .vmem S1x1024x1024 .bf16).view.loc (c : Thread nD τ)) := xBlock m (σ.symm c)

omit [FloatOps F] in
theorem holdsX_eq (c : Dev nD) : holdsX m c = (((c : Thread nD τ).loc cc0_stg1_0) ↦{fullShare} xBlock m c : sProp 𝕄) := by
  unfold holdsX; rw [View.set_whole]
omit [FloatOps F] in
theorem outBuf_eq (c : Dev nD) (f : Buf (Elt F) ((c : Thread nD τ).loc cc0_stg2_0)) :
    outBuf c f = (((c : Thread nD τ).loc cc0_stg2_0) ↦{fullShare} f : sProp 𝕄) := by
  unfold outBuf; rw [View.set_whole]

omit [FloatOps F] in
instance holdsX_storable (c : Dev nD) : BI.Storable (upEmb : UEmb _ 𝕄) (holdsX (F := F) m c) := by unfold holdsX; infer_instance
omit [FloatOps F] in
instance outBuf_storable (c : Dev nD) (f) : BI.Storable (upEmb : UEmb _ 𝕄) (outBuf (F := F) c f) := by unfold outBuf; infer_instance

omit [FloatOps F] in
/-- A whole block copied into a whole buffer replaces what was there. -/
theorem copied (c : Dev nD) (old : Buf (Elt F) ((oMem : Memref sig .tc .vmem S1x1024x1024 .bf16).view.loc (c : Thread nD τ)))
    (new : (cc0_stg1_0 : Ref sig .tc).ty.Contents (Elt F)) :
    (oMem : Memref sig .tc .vmem S1x1024x1024 .bf16).view.write (Elt F) old
      ((xMem : Memref sig .tc .vmem S1x1024x1024 .bf16).view.read (Elt F) new) Finset.univ = new := by
  show (View.whole cc0_stg2_0).write (Elt F) old ((View.whole cc0_stg1_0).read (Elt F) new) Finset.univ = new
  rw [View.read_whole]
  exact View.write_whole_univ _ _ _

/-! ## The schedule -/

/-- What the one payment of a cell hands over. -/
def handed (g : GSem nD τ sig) : sProp 𝕄 :=
  if g.2 = role 0 then iprop(∃ f, outBuf (σ g.1.1) f) else if g.2 = role 1 then holdsX m g.1.1 else outBuf g.1.1 (arrived m σ g.1.1)

/-- One round with one payment for every cell of the protocol. -/
def sched : Rounds.Schedule (GSem nD τ sig) Unit 𝕄 where
  duties g r := if r = 0 ∧ ∃ ck : Dev nD × Fin 3, g = cell ck.1 ck.2 then {()} else ∅
  unitless _ := False
  amount g _ _ := if g.2 = role 0 then 1 else credit
  payload g _ _ := handed m σ g
  amount_pos g _ _ _ := by
    by_cases h : g.2 = role 0
    · rw [if_pos h]; exact Nat.one_pos
    · rw [if_neg h]; exact credit_pos

instance sched_storable (g : GSem nD τ sig) (r : ℕ) (d : Unit) : BI.Storable (upEmb : UEmb _ 𝕄) ((sched (F := F) m σ).payload g r d) := by
  show BI.Storable upEmb (handed m σ g)
  unfold handed
  (repeat' split) <;> infer_instance

section
variable (c : Dev nD)

omit [FloatOps F] in
theorem duty (k : Fin 3) : (sched (F := F) m σ).duties (cell c k) 0 = {()} := by
  dsimp only [sched]; exact if_pos ⟨rfl, (c, k), rfl⟩
omit [FloatOps F] in
theorem no_more_duties (g : GSem nD τ sig) : ∀ r, 1 ≤ r → (sched (F := F) m σ).duties g r = ∅ := fun r hr => by
  dsimp only [sched]; exact if_neg fun h => by omega
omit [FloatOps F] in
theorem amount_bar : (sched (F := F) m σ).amount (cell c 0) 0 () = 1 := by dsimp only [sched]; exact if_pos rfl
omit [FloatOps F] in
theorem amount_copy (k : Fin 3) (hk : k ≠ 0) : (sched (F := F) m σ).amount (cell c k) 0 () = credit := by
  dsimp only [sched]; exact if_neg fun h => hk (role_inj h)
omit [FloatOps F] in
theorem expects (k : Fin 3) : (sched (F := F) m σ).expect (cell c k) 0 = (sched (F := F) m σ).amount (cell c k) 0 () := by
  unfold Schedule.expect Schedule.amountOf; rw [duty, Finset.sum_singleton]

omit [FloatOps F] in
theorem handed_bar : handed m σ (cell c 0) = iprop(∃ f, outBuf (F := F) (σ c) f) := if_pos rfl
omit [FloatOps F] in
theorem handed_send : handed (F := F) m σ (cell c 1) = holdsX m c := by
  unfold handed; rw [if_neg (role_ne c (by decide)), if_pos rfl]
omit [FloatOps F] in
theorem handed_recv : handed (F := F) m σ (cell c 2) = outBuf c (arrived m σ c) := by
  unfold handed; rw [if_neg (role_ne c (by decide)), if_neg (role_ne c (by decide))]

omit [FloatOps F] in
/-- The round's whole content, no payment taken yet, is the one payment's. -/
theorem round_content (k : Fin 3) :
    bigSep ((sched (F := F) m σ).duties (cell c k) 0 \ ∅) (fun d => (sched (F := F) m σ).payload (cell c k) 0 d) = handed m σ (cell c k) := by
  rw [Finset.sdiff_empty, duty, bigSep_singleton]; rfl

end

/-! ## Debts at launch, and the order in which cells may be waited for -/

/-- Owed once the signal is out: the block for the destination. -/
def owesBlock (c : Dev nD) : CellTallies nD τ sig Unit := tallyAt (cell (σ c) 2) () credit
/-- Owed at launch: that, and the signal for the source. -/
def owesAll (c : Dev nD) : CellTallies nD τ sig Unit := owesBlock σ c + tallyAt (cell (σ.symm c) 0) () 1

/-- Only TensorCores' cells carry a level. -/
def levelled (g : GSem nD τ sig) : Finset Unit := if g.1.2 = .tc then {()} else ∅
/-- Receive cells above barrier cells above every other cell. -/
def level (g : GSem nD τ sig) (_ : Unit) : ℕ := if g.2 = role 2 then 2 else if g.2 = role 0 then 1 else 0

theorem levelled_tc (c : Dev nD) (s : SemLoc sig) : levelled ((c : Thread nD τ), s) = {()} := if_pos rfl
theorem levelled_other (g : GSem nD τ sig) (h : g.1.2 ≠ .tc) : levelled g = ∅ := if_neg h
theorem level_recv (c : Dev nD) : level (cell c 2) () = 2 := if_pos rfl
theorem level_bar (c : Dev nD) : level (cell c 0) () = 1 := by
  unfold level; rw [if_neg (role_ne c (by decide)), if_pos rfl]

theorem owesBlock_pos {c : Dev nD} {g : GSem nD τ sig} {u : Unit} (h : 0 < owesBlock σ c g u) : g = cell (σ c) 2 := by
  unfold owesBlock at h
  rw [tallyAt_apply] at h
  by_contra hn
  rw [if_neg fun h' => hn h'.1] at h
  exact Nat.lt_irrefl 0 h

theorem owesAll_pos {c : Dev nD} {g : GSem nD τ sig} {u : Unit} (h : 0 < owesAll σ c g u) : g = cell (σ c) 2 ∨ g = cell (σ.symm c) 0 := by
  unfold owesAll at h
  rw [Pi.add_apply, Finsupp.add_apply, tallyAt_apply] at h
  by_cases hb : g = cell (σ.symm c) 0
  · exact .inr hb
  · rw [if_neg fun h' => hb h'.1, Nat.add_zero] at h
    exact .inl (owesBlock_pos σ h)

omit [FloatOps F] in
/-- At the barrier wait only a receive cell is owed: it lies above. -/
theorem may_wait_barrier (c : Dev nD) : (levAts levelled level : sProp 𝕄) ⊢ MayWait (c : Thread nD τ) (role 0) () (owesBlock σ c) :=
  MayOwe.of_cut (L := levelled) (lev := level) 1
    (fun p hp => by rw [Finset.mem_singleton.mp hp, levelled_tc]; exact Finset.mem_singleton_self _)
    (fun g u hg => by rw [owesBlock_pos σ hg, levelled_tc]; exact Finset.mem_singleton_self _)
    (fun p hp => by rw [Finset.mem_singleton.mp hp]; exact le_of_eq (level_bar c))
    (fun g u hg => by rw [owesBlock_pos σ hg, show u = () from rfl, level_recv]; decide)

omit [FloatOps F] in
/-- The pipeline's own copies may be waited for at any time: their cells lie below everything owed. -/
theorem may_wait_staging (c : Dev nD) (q : DmaSem sig) (hq : (SemLoc.dma q : SemLoc sig) ≠ role 2) (O : CellTallies nD τ sig Unit)
    (hO : O = owesAll σ c ∨ O = 0) : (levAts levelled level : sProp 𝕄) ⊢ MayWait (c : Thread nD τ) (.dma q) () O := by
  rcases hO with rfl | rfl
  · refine MayOwe.of_cut (L := levelled) (lev := level) 0
      (fun p hp => by rw [Finset.mem_singleton.mp hp, levelled_tc]; exact Finset.mem_singleton_self _)
      (fun g u hg => by rcases owesAll_pos σ hg with rfl | rfl <;> (rw [levelled_tc]; exact Finset.mem_singleton_self _))
      (fun p hp => by
        rw [Finset.mem_singleton.mp hp]
        unfold level; rw [if_neg hq, if_neg fun h => by cases h])
      (fun g u hg => by
        rcases owesAll_pos σ hg with rfl | rfl
        · rw [show u = () from rfl, level_recv]; decide
        · rw [show u = () from rfl, level_bar]; decide)
  · rw [MayWait_zero]; iintro -; iempintro

end Cert.Permute

end
-- ==== Proof.Steps.lean ====
/-
# What a device holds, and the steps of its body

What device `c` holds when its body starts and what it holds at the end; then one lemma for each step that meets
another device: the signal to `σ⁻¹ c`, the wait on its own barrier, the transfer to `σ c`, the two waits for transfers.
-/
module

public import proofs.«01_k».proof.Proof.Protocol

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ) (σ : Equiv.Perm (Dev nD))

/-! ## What a device starts from -/

/-- The invariants a device opens: those of its own three cells, of its source's barrier, of its destination's receive cell. -/
def invariants (K : Dev nD × Fin 3 → ℕ) (c : Dev nD) : sProp 𝕄 :=
  iprop(cellInv cellEmb (sched m σ) (K (c, 0)) (cell c 0) ∗ cellInv cellEmb (sched m σ) (K (c, 1)) (cell c 1) ∗ cellInv cellEmb (sched m σ) (K (c, 2)) (cell c 2)
    ∗ cellInv cellEmb (sched m σ) (K (σ.symm c, 0)) (cell (σ.symm c) 0) ∗ cellInv cellEmb (sched m σ) (K (σ c, 2)) (cell (σ c) 2))

instance invariants_persistent (K : Dev nD × Fin 3 → ℕ) (c : Dev nD) : BI.Persistent (invariants (F := F) m σ K c) := by unfold invariants; infer_instance

/-- The right to make the three payments that are `c`'s: the source's barrier, its own send cell, the destination's receive cell. -/
def payments (c : Dev nD) : sProp 𝕄 :=
  iprop(dutyTok cellEmb (cell (σ.symm c) 0) 0 () ∗ dutyTok cellEmb (cell c 1) 0 () ∗ dutyTok cellEmb (cell (σ c) 2) 0 ())

/-- That the three cells it pays are at their first round. -/
def firstRounds (c : Dev nD) : sProp 𝕄 :=
  iprop(reached cellEmb (cell (σ.symm c) 0) 0 ∗ reached cellEmb (cell c 1) 0 ∗ reached cellEmb (cell (σ c) 2) 0)

instance firstRounds_persistent (c : Dev nD) : BI.Persistent (firstRounds (F := F) σ c) := by unfold firstRounds; infer_instance

/-- Its place at its own three cells: the start of the first round. -/
def places (c : Dev nD) : sProp 𝕄 :=
  iprop(atPos cellEmb (cell c 0) 0 ∅ 0 ∗ atPos cellEmb (cell c 1) 0 ∅ 0 ∗ atPos cellEmb (cell c 2) 0 ∅ 0)

/-- Its share of the protocol, the invariants under the names `K`. -/
def share (K : Dev nD × Fin 3 → ℕ) (c : Dev nD) : sProp 𝕄 :=
  iprop(invariants m σ K c ∗ firstRounds σ c ∗ places c ∗ payments σ c)

/-- What comes to it of others' debts: one barrier unit, one block. -/
def claims (c : Dev nD) : sProp 𝕄 := iprop(cred (tallyAt (cell c 0) () 1) ∗ cred (tallyAt (cell c 2) () credit))

/-- The whole of what the protocol gives device `c` at launch. -/
def start (c : Dev nD) : sProp 𝕄 := iprop((∃ K, share m σ K c) ∗ claims c ∗ levAts levelled level)

/-- Its three counters at zero, the cells closed. -/
def settled (c : Dev nD) : sProp 𝕄 := iprop(semVal (cell c 0) 0 ∗ semVal (cell c 1) 0 ∗ semVal (cell c 2) 0)

/-! ## The pipeline's data -/

/-- The three windows: `pi` and `x` are fetched and stay, the result's block becomes the one that arrived. -/
def dats (_ : Fin 1) (c : Dev nD) : Dat τ (Elt F) Unit ℕ Ghost ℕ cfg0 c where
  A w := m ((cfg0.win w).arr.view.loc (c : Thread nD τ))
  after w _ := match w with
    | ⟨0, _⟩ => piBlock m c
    | ⟨1, _⟩ => xBlock m c
    | ⟨2, _⟩ => arrived m σ c
  Φ t := match t with
    | ⟨0, _⟩ => start m σ c
    | ⟨_ + 1, _⟩ => settled c
  q _ := fullShare
  owed t := match t with
    | ⟨0, _⟩ => owesAll σ c
    | ⟨_ + 1, _⟩ => 0

abbrev 𝒱₀ : Variants := Variants.none

theorem fetches_pi : (cfg0.win (0 : Fin 3)).fetch t0_0 = true := rfl
theorem fetches_x : (cfg0.win (1 : Fin 3)).fetch t0_0 = true := rfl

/-- Device `c` holds staging buffer `b` whole, at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_eq_held (c : Dev nD) (b : Ref sig .tc) (X : b.ty.Contents (Elt F)) :
    (owns (Ix := Unit) (Name := ℕ) (U := Ghost) (Lvl := ℕ) (c : Thread nD τ) (Memref.whole b) fullShare X : sProp 𝕄) = held c b X := by
  unfold owns; simp only [Memref.view_whole, View.read_whole, View.set_whole]

/-! ## Single steps -/

section
variable (K : Dev nD × Fin 3 → ℕ)

/-- The signal to `n = σ⁻¹ c`: it settles the barrier debt and hands `c`'s output buffer over. -/
theorem signal_step (c n : Dev nD) (hn : n = σ.symm c) (W : Waits sig Unit)
    (f : Buf (Elt F) ((oMem : Memref sig .tc .vmem S1x1024x1024 .bf16).view.loc (c : Thread nD τ)))
    {α : Type} {Q : α → sProp 𝕄} {k : PUnit → Prog (TpuEff nD τ sig (Elt F) Λ₀ .tc) α} :
    iprop(cellInv cellEmb (sched m σ) (K (σ.symm c, 0)) (cell (σ.symm c) 0) ∗ owes (c : Thread nD τ) (owesAll σ c) W
        ∗ dutyTok cellEmb (cell (σ.symm c) 0) 0 () ∗ reached cellEmb (cell (σ.symm c) 0) 0 ∗ outBuf c f)
      ⊢ iprop((owes (c : Thread nD τ) (owesBlock σ c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) (SemArray.scalar (sig.barrier 0 rfl) : Sems sig S_).sem (1#32 : BitVec 32).toNat) k) Q) := by
  subst hn
  iintro ⟨#HI, HO, Ht, #Hr, Hb⟩ Hk
  iapply (Rounds.wp_signal 𝒱₀ cellEmb (sched m σ) (c : Thread nD τ) none (dst := (σ.symm c : Thread nD τ)) (κ := K (σ.symm c, 0))
      (d := ()) (by rw [show ((σ.symm c : Thread nD τ), SemLoc.reg (SemArray.scalar (sig.barrier 0 rfl) : Sems sig S_).sem) = cell (σ.symm c) 0 from rfl, duty]; exact Finset.mem_singleton_self _)
      ((amount_bar m σ (σ.symm c)).trans (by decide)) () (owesBlock σ c) rfl) $$ [HO Ht Hb]
  · isplitr; · iexact HI
    isplitl [HO]; · iexact HO
    isplitl [Ht]; · iexact Ht
    isplitl [Hb]
    · iapply (Entails.of_eq (show iprop(∃ f, outBuf (F := F) (σ (σ.symm c)) f) = (sched m σ).payload (cell (σ.symm c) 0) 0 () from (handed_bar m σ (σ.symm c)).symm))
      rw [σ.apply_symm_apply]
      iexists f; iexact Hb
    iexact Hr
  iexact Hk

/-- The transfer to `n = σ c`: the block goes out, `σ c`'s output buffer goes with it, nothing is owed any more. -/
theorem transfer_step (c n : Dev nD) (hn : n = σ c) (W : Waits sig Unit)
    {hsc : (oMem : Memref sig (Dev.tc n : Thread nD τ).2.kind .vmem S1x1024x1024 .bf16).view.ref.isScScratch = false}
    {hsrc : (xMem : Memref sig .tc .vmem S1x1024x1024 .bf16).view.WordExact} {hdst : (oMem : Memref sig .tc .vmem S1x1024x1024 .bf16).view.WordExact}
    {hsem : DmaTarget.Typed .vmem (.dma (cc0_scratch1 : DmaSems sig S_).sem)
      (.remote (Dev.tc n : Thread nD τ) (oMem : Memref sig .tc .vmem S1x1024x1024 .bf16) (.dma (cc0_scratch0 : DmaSems sig S_).sem) hsc)}
    (f : Buf (Elt F) ((oMem : Memref sig .tc .vmem S1x1024x1024 .bf16).view.loc (σ c : Thread nD τ)))
    {α : Type} {Q : α → sProp 𝕄} {k : PUnit → Prog (TpuEff nD τ sig (Elt F) Λ₀ .tc) α} :
    iprop(cellInv cellEmb (sched m σ) (K (c, 1)) (cell c 1) ∗ cellInv cellEmb (sched m σ) (K (σ c, 2)) (cell (σ c) 2)
        ∗ holdsX m c ∗ outBuf (σ c) f ∗ owes (c : Thread nD τ) (owesBlock σ c) W
        ∗ dutyTok cellEmb (cell c 1) 0 () ∗ reached cellEmb (cell c 1) 0 ∗ dutyTok cellEmb (cell (σ c) 2) 0 () ∗ reached cellEmb (cell (σ c) 2) 0)
      ⊢ iprop(((cred (tallyAt (cell c 1) () credit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xMem (.remote (Dev.tc n : Thread nD τ) oMem (.dma (cc0_scratch0 : DmaSems sig S_).sem) hsc)
                (.dma (cc0_scratch1 : DmaSems sig S_).sem) hsrc hdst hsem) k) Q) := by
  subst hn
  unfold holdsX outBuf
  exact Rounds.wp_send_pointsTo 𝒱₀ cellEmb (sched m σ) (c : Thread nD τ) none (κ₁ := K (c, 1)) (κ₂ := K (σ c, 2))
    (r₁ := 0) (r₂ := 0) (d₁ := ()) (d₂ := ()) (fd := f)
    (by rw [show ((c : Thread nD τ), SemLoc.dma (cc0_scratch0 : DmaSems sig S_).sem) = cell c 1 from rfl, duty]; exact Finset.mem_singleton_self _)
    (by rw [show ((σ c : Thread nD τ), SemLoc.dma (cc0_scratch1 : DmaSems sig S_).sem) = cell (σ c) 2 from rfl, duty]; exact Finset.mem_singleton_self _)
    () () credit rfl (amount_copy m σ c 1 (by decide)) (amount_copy m σ (σ c) 2 (by decide)) 0 (by rw [zero_add]; rfl) (W := W)
    (Entails.of_eq (handed_send m σ c).symm)
    ((Entails.of_eq (by rw [copied]; unfold outBuf arrived; rw [σ.symm_apply_apply])).trans (Entails.of_eq (handed_recv m σ (σ c)).symm))

/-- The wait on the own barrier: the destination's output buffer comes with it. -/
theorem barrier_step (c : Dev nD) (W : Waits sig Unit) {α : Type} {Q : α → sProp 𝕄} {k : PUnit → Prog (TpuEff nD τ sig (Elt F) Λ₀ .tc) α} :
    iprop(cellInv cellEmb (sched m σ) (K (c, 0)) (cell c 0) ∗ cred (tallyAt (cell c 0) () 1) ∗ owes (c : Thread nD τ) (owesBlock σ c) W
        ∗ levAts levelled level ∗ atPos cellEmb (cell c 0) 0 ∅ 0)
      ⊢ iprop((((owes (c : Thread nD τ) (owesBlock σ c) (insert (role 0, ()) W)) ∗ atPos cellEmb (cell c 0) (0 + 1) ∅ 0 ∗ ∃ f, outBuf (σ c) f)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait (SemArray.scalar (sig.barrier 0 rfl) : Sems sig S_).sem (1#32 : BitVec 32).toNat) k) Q) := by
  iintro ⟨#HI, Hc, HO, #Hlev, Hat⟩ Hk
  iapply (Rounds.wp_wait_rest_token 𝒱₀ cellEmb (sched m σ) (c : Thread nD τ) none (κ := K (c, 0))
      (wpE_semWait_eq 𝒱₀ (c : Thread nD τ) none Set.univ) (Set.mem_univ _) () (O := owesBlock σ c) (W := W) (R := 0) (m := 0) (T := ∅)
      (by rw [Nat.zero_add]; exact ((expects m σ c 0).trans (amount_bar m σ c)).symm)) $$ [Hc HO Hat]
  · isplitr; · iexact HI
    isplitl [Hc]; · iexact Hc
    isplitl [HO]; · iexact HO
    isplitr; · iapply (may_wait_barrier σ c); iexact Hlev
    iexact Hat
  iintro ⟨HO, Hat, -, Hpay⟩
  ihave Hp := (Entails.of_eq ((round_content m σ c 0).trans (handed_bar m σ c))) $$ Hpay
  iapply Hk
  isplitl [HO]; · iexact HO
  isplitl [Hat]; · iexact Hat
  iexact Hp

/-- A wait for a transfer, owing nothing: role `k`'s payment comes with it. -/
theorem copy_step (c : Dev nD) (k' : Fin 3) (q : DmaSem sig) (hq : role k' = .dma q) (hk : k' ≠ 0) (W : Waits sig Unit)
    (src dst : Memref sig .tc .vmem S1x1024x1024 .bf16) (hsrc : src.view.WordExact) (hdst : dst.view.WordExact) (hN : dst.view.dmaCredit = credit)
    {α : Type} {Q : α → sProp 𝕄} {k : PUnit → Prog (TpuEff nD τ sig (Elt F) Λ₀ .tc) α} :
    iprop(cellInv cellEmb (sched m σ) (K (c, k')) (cell c k') ∗ cred (tallyAt (cell c k') () credit) ∗ owes (c : Thread nD τ) 0 W
        ∗ atPos cellEmb (cell c k') 0 ∅ 0)
      ⊢ iprop((((owes (c : Thread nD τ) 0 (insert (role k', ()) W)) ∗ atPos cellEmb (cell c k') (0 + 1) ∅ 0 ∗ handed m σ (cell c k'))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hcell : cell c k' = ((c : Thread nD τ), SemLoc.dma q) := by unfold cell; rw [hq]
  have hexp : (sched (F := F) m σ).expect (cell c k') 0 = credit := (expects m σ c k').trans (amount_copy m σ c k' hk)
  have hcont := round_content m σ c k'
  rw [hcell] at hexp hcont
  rw [hcell, hq]
  iintro ⟨#HI, Hc, HO, Hat⟩ Hk
  iapply (Rounds.wp_wait_rest_token 𝒱₀ cellEmb (sched m σ) (c : Thread nD τ) none (κ := K (c, k'))
      (wpE_waitDma2_eq 𝒱₀ (c : Thread nD τ) none Set.univ) (Set.mem_univ _) () (O := 0) (W := W) (R := 0) (m := 0) (T := ∅)
      (by rw [Nat.zero_add, hexp, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq hcont) $$ Hpay
  iapply Hk
  isplitl [HO]; · iexact HO
  isplitl [Hat]; · iexact Hat
  iexact Hp

/-- A cell past its round closes: its counter is at zero. -/
theorem close_step (c : Dev nD) (k : Fin 3) :
    iprop(cellInv cellEmb (sched m σ) (K (c, k)) (cell c k) ∗ atPos cellEmb (cell c k) (0 + 1) ∅ 0)
      ⊢ (|={Set.univ}=> semVal (cell c k) 0 : sProp 𝕄) :=
  Rounds.cell_close cellEmb (sched m σ) (Set.mem_univ (K (c, k))) (fun h => h) (R := 0 + 1) (no_more_duties m σ (cell c k))

end

end Cert.Permute

end
-- ==== Proof.Body.lean ====
/-
# One device's body, run

Nine reads of the table, the signal to `σ⁻¹ c`, the wait on the own barrier, the transfer to `σ c`, the waits for
the outgoing and for the incoming transfer: the steps of `Steps.lean` in the program's order.
-/
module

public import proofs.«01_k».proof.Proof.Steps

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ) (σ : Equiv.Perm (Dev nD))

abbrev piMem : Memref sig .tc .smem S8 .i32 := Memref.whole cc0_stg0_0

/-- The kernel's body on its staging buffers and its two transfer semaphores. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) cc0_scratch0 cc0_scratch1

/-- Before the body: the device's share, its claims, its debts; the table and the block staged; some output buffer. -/
def before (K : Dev nD × Fin 3 → ℕ) (c : Dev nD) : sProp 𝕄 :=
  iprop(share m σ K c ∗ claims c ∗ levAts levelled level ∗ (∃ W, owes (c : Thread nD τ) (owesAll σ c) W)
    ∗ ((c : Thread nD τ).loc cc0_stg0_0 ↦{fullShare} piBlock m c) ∗ ((c : Thread nD τ).loc cc0_stg1_0 ↦{fullShare} xBlock m c)
    ∗ ∃ f, (c : Thread nD τ).loc cc0_stg2_0 ↦{fullShare} f)

/-- After it: the counters at zero, no debts, the output buffer at the block that arrived. -/
def afterwards (c : Dev nD) : sProp 𝕄 :=
  iprop(settled c ∗ (∃ W, owes (c : Thread nD τ) 0 W)
    ∗ ((c : Thread nD τ).loc cc0_stg0_0 ↦{fullShare} piBlock m c) ∗ ((c : Thread nD τ).loc cc0_stg1_0 ↦{fullShare} xBlock m c)
    ∗ ((c : Thread nD τ).loc cc0_stg2_0 ↦{fullShare} arrived m σ c))

variable {m σ}

/-- The eight words of the search, as read from the staged table. -/
theorem Agrees.words (h : Agrees m σ) (c : Dev nD) :
    k0_dev1 c (wordAt ![0] inb_S8_S1_0 (piBlock m c)) (wordAt ![1] inb_S8_S1_1 (piBlock m c)) (wordAt ![2] inb_S8_S1_2 (piBlock m c))
      (wordAt ![3] inb_S8_S1_3 (piBlock m c)) (wordAt ![4] inb_S8_S1_4 (piBlock m c)) (wordAt ![5] inb_S8_S1_5 (piBlock m c))
      (wordAt ![6] inb_S8_S1_6 (piBlock m c)) (wordAt ![7] inb_S8_S1_7 (piBlock m c)) = (σ.symm c).val := by
  rw [h.word c 0 _ _ rfl, h.word c 1 _ _ rfl, h.word c 2 _ _ rfl, h.word c 3 _ _ rfl, h.word c 4 _ _ rfl, h.word c 5 _ _ rfl,
    h.word c 6 _ _ rfl, h.word c 7 _ _ rfl, source_words]

theorem Agrees.sends (h : Agrees m σ) (c : Dev nD) : k0_dev2 (wordAt (k0_off1 c) (k0_off1_inb c) (piBlock m c)) = (σ c).val := by
  rw [h.own, dest_word]

/-- Both checks of the body pass. -/
theorem Agrees.chk2 (h : Agrees m σ) (c : Dev nD) : k0_chk2 (wordAt (k0_off1 c) (k0_off1_inb c) (piBlock m c)) := by
  show k0_dev2 _ < nD; rw [h.sends]; exact (σ c).isLt
theorem Agrees.chk1 (h : Agrees m σ) (c : Dev nD) :
    k0_chk1 c (wordAt ![0] inb_S8_S1_0 (piBlock m c)) (wordAt ![1] inb_S8_S1_1 (piBlock m c)) (wordAt ![2] inb_S8_S1_2 (piBlock m c))
      (wordAt ![3] inb_S8_S1_3 (piBlock m c)) (wordAt ![4] inb_S8_S1_4 (piBlock m c)) (wordAt ![5] inb_S8_S1_5 (piBlock m c))
      (wordAt ![6] inb_S8_S1_6 (piBlock m c)) (wordAt ![7] inb_S8_S1_7 (piBlock m c)) := by
  show k0_dev1 _ _ _ _ _ _ _ _ _ < nD; rw [h.words]; exact (σ.symm c).isLt

set_option maxHeartbeats 4000000 in
/-- The body's run: from `before` to `afterwards`. -/
theorem body_runs (h : Agrees m σ) (K : Dev nD × Fin 3 → ℕ) (c : Dev nD) (Q : PUnit → sProp 𝕄) :
    iprop(before m σ K c ∗ (afterwards m σ c -∗ Q ⟨⟩)) ⊢ wp frame (wpE (defs₀ (F := F)) 𝒱₀ c none) Set.univ theBody Q := by
  unfold theBody
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold before share invariants firstRounds places payments claims
  iintro ⟨⟨⟨⟨#HI0, #HI1, #HI2, #HIb, #HIr⟩, ⟨#Hr0, #Hr1, #Hr2⟩, ⟨Ha0, Ha1, Ha2⟩, Ht0, Ht1, Ht2⟩, ⟨Hc0, Hc2⟩, #Hlev, ⟨%W, HO⟩, Hpi, Hx, ⟨%f, Hout⟩⟩, Hk⟩
  -- the own word, and the check that it names a device
  iapply (wp_load_rect 𝒱₀ (c : Thread nD τ) none Set.univ (m := piMem) (r := Rect.unit (s := S8) (k0_off1 c) S1.size (k0_off1_inb c)) (Finset.subset_univ _)) $$ Hpi; iintro Hpi
  simp only [wp_assume_of _ _ _ _ (d := k0_chk2.dec _) (h.chk2 c)]
  -- the eight words of the search, and the check that it ends at a device
  iapply (wp_load_rect 𝒱₀ (c : Thread nD τ) none Set.univ (m := piMem) (r := Rect.unit (s := S8) ![0] S1.size inb_S8_S1_0) (Finset.subset_univ _)) $$ Hpi; iintro Hpi
  iapply (wp_load_rect 𝒱₀ (c : Thread nD τ) none Set.univ (m := piMem) (r := Rect.unit (s := S8) ![1] S1.size inb_S8_S1_1) (Finset.subset_univ _)) $$ Hpi; iintro Hpi
  iapply (wp_load_rect 𝒱₀ (c : Thread nD τ) none Set.univ (m := piMem) (r := Rect.unit (s := S8) ![2] S1.size inb_S8_S1_2) (Finset.subset_univ _)) $$ Hpi; iintro Hpi
  iapply (wp_load_rect 𝒱₀ (c : Thread nD τ) none Set.univ (m := piMem) (r := Rect.unit (s := S8) ![3] S1.size inb_S8_S1_3) (Finset.subset_univ _)) $$ Hpi; iintro Hpi
  iapply (wp_load_rect 𝒱₀ (c : Thread nD τ) none Set.univ (m := piMem) (r := Rect.unit (s := S8) ![4] S1.size inb_S8_S1_4) (Finset.subset_univ _)) $$ Hpi; iintro Hpi
  iapply (wp_load_rect 𝒱₀ (c : Thread nD τ) none Set.univ (m := piMem) (r := Rect.unit (s := S8) ![5] S1.size inb_S8_S1_5) (Finset.subset_univ _)) $$ Hpi; iintro Hpi
  iapply (wp_load_rect 𝒱₀ (c : Thread nD τ) none Set.univ (m := piMem) (r := Rect.unit (s := S8) ![6] S1.size inb_S8_S1_6) (Finset.subset_univ _)) $$ Hpi; iintro Hpi
  iapply (wp_load_rect 𝒱₀ (c : Thread nD τ) none Set.univ (m := piMem) (r := Rect.unit (s := S8) ![7] S1.size inb_S8_S1_7) (Finset.subset_univ _)) $$ Hpi; iintro Hpi
  simp only [wp_assume_of _ _ _ _ (d := k0_chk1.dec _ _ _ _ _ _ _ _ _) (h.chk1 c)]
  -- the signal to the source
  ihave Hout' := (Entails.of_eq (outBuf_eq c f).symm) $$ Hout
  iapply (signal_step m σ K c _ (Fin.ext (h.words c)) W f) $$ [HO Ht0 Hout']
  · isplitr; · iexact HIb
    isplitl [HO]; · iexact HO
    isplitl [Ht0]; · iexact Ht0
    isplitr; · iexact Hr0
    iexact Hout'
  iintro HO
  -- the wait on the own barrier
  iapply (barrier_step m σ K c W) $$ [HO Hc0 Ha0]
  · isplitr; · iexact HI0
    isplitl [Hc0]; · iexact Hc0
    isplitl [HO]; · iexact HO
    isplitr; · iexact Hlev
    iexact Ha0
  iintro ⟨HO, Ha0, ⟨%fd, Hdst⟩⟩
  -- the transfer to the destination
  ihave Hx' := (Entails.of_eq (holdsX_eq m c).symm) $$ Hx
  iapply (transfer_step m σ K c _ (Fin.ext (h.sends c)) _ fd) $$ [Hx' Hdst HO Ht1 Ht2]
  · isplitr; · iexact HI1
    isplitr; · iexact HIr
    isplitl [Hx']; · iexact Hx'
    isplitl [Hdst]; · iexact Hdst
    isplitl [HO]; · iexact HO
    isplitl [Ht1]; · iexact Ht1
    isplitr; · iexact Hr1
    isplitl [Ht2]; · iexact Ht2
    iexact Hr2
  iintro ⟨Hc1, HO⟩
  -- the wait for it, and the wait for the incoming one
  iapply (copy_step m σ K c 1 _ rfl (by decide) _ oMem xMem _ _ rfl) $$ [HO Hc1 Ha1]
  · isplitr; · iexact HI1
    isplitl [Hc1]; · iexact Hc1
    isplitl [HO]; · iexact HO
    iexact Ha1
  iintro ⟨HO, Ha1, Hback⟩
  ihave Hx := (Entails.of_eq ((handed_send m σ c).trans (holdsX_eq m c))) $$ Hback
  iapply (copy_step m σ K c 2 _ rfl (by decide) _ xMem oMem _ _ rfl) $$ [HO Hc2 Ha2]
  · isplitr; · iexact HI2
    isplitl [Hc2]; · iexact Hc2
    isplitl [HO]; · iexact HO
    iexact Ha2
  iintro ⟨HO, Ha2, Hin⟩
  ihave Hout := (Entails.of_eq ((handed_recv m σ c).trans (outBuf_eq c _))) $$ Hin
  -- the three cells close
  imod (close_step m σ K c 0) $$ [Ha0] with Hz0
  · isplitr; · iexact HI0
    iexact Ha0
  imod (close_step m σ K c 1) $$ [Ha1] with Hz1
  · isplitr; · iexact HI1
    iexact Ha1
  imod (close_step m σ K c 2) $$ [Ha2] with Hz2
  · isplitr; · iexact HI2
    iexact Ha2
  rw [wp_ret]; imodintro
  iapply Hk
  unfold afterwards settled
  isplitl [Hz0 Hz1 Hz2]
  · isplitl [Hz0]; · iexact Hz0
    isplitl [Hz1] <;> iassumption
  isplitl [HO]; · iexists _; iexact HO
  isplitl [Hpi]; · iexact Hpi
  isplitl [Hx]; · iexact Hx
  iexact Hout

/-- The pipeline's obligation for the body, at its one point. -/
theorem body_obligation (h : Agrees m σ) (c : Dev nD) : BodyObligation (dats m σ 0 c) (defs₀ (F := F)) 𝒱₀ () Set.univ := fun t => by
  rw [fin_N0 t, bigSep_W0, bigSep_W0]
  simp only [owns_eq_held]
  show iprop(start m σ c ∗ (dats m σ 0 c).owesAt () t0_0.castSucc
      ∗ (∃ d, held c cc0_stg0_0 ((dats m σ 0 c).before (0 : Fin 3) t0_0 d))
      ∗ (∃ d, held c cc0_stg1_0 ((dats m σ 0 c).before (1 : Fin 3) t0_0 d))
      ∗ (∃ d, held c cc0_stg2_0 ((dats m σ 0 c).before (2 : Fin 3) t0_0 d)))
    ⊢ wp frame (wpE (defs₀ (F := F)) 𝒱₀ c none) Set.univ theBody (fun _ => iprop(settled c ∗ (dats m σ 0 c).owesAt () t0_0.succ
      ∗ held c cc0_stg0_0 (piBlock m c) ∗ held c cc0_stg1_0 (xBlock m c) ∗ held c cc0_stg2_0 (arrived m σ c)))
  unfold start Dat.owesAt Pipeline.owesWithin
  iintro ⟨⟨⟨%K, Hs⟩, Hcl, Hlev⟩, ⟨%W, %hW, HO⟩, ⟨%d0, %g0, %hg0, Hpi⟩, ⟨%d1, %g1, %hg1, Hx⟩, ⟨%d2, %g2, %hg2, Hout⟩⟩
  have e0 : g0 = piBlock m c := by rw [hg0]; unfold Dat.before; rw [if_pos fetches_pi]; rfl
  have e1 : g1 = xBlock m c := by rw [hg1]; unfold Dat.before; rw [if_pos fetches_x]; rfl
  subst e0 e1
  iapply (body_runs h K c _)
  unfold before afterwards
  isplitr []
  · isplitl [Hs]; · iexact Hs
    isplitl [Hcl]; · iexact Hcl
    isplitl [Hlev]; · iexact Hlev
    isplitl [HO]; · iexists W; iexact HO
    isplitl [Hpi]; · iexact Hpi
    isplitl [Hx]; · iexact Hx
    iexists g2; iexact Hout
  iintro ⟨Hz, ⟨%W', HO⟩, Hpi, Hx, Hout⟩
  isplitl [Hz]; · iexact Hz
  isplitl [HO]
  · iexists W'
    isplitr; · ipureintro; exact fun _ _ => Or.inl trivial
    iexact HO
  isplitl [Hpi]
  · iexists _; isplitr; · (ipureintro; rfl)
    iexact Hpi
  isplitl [Hx]
  · iexists _; isplitr; · (ipureintro; rfl)
    iexact Hx
  iexists _; isplitr; · (ipureintro; rfl)
  iexact Hout

end Cert.Permute

end
-- ==== Proof.Dealing.lean ====
/-
# Dealing the protocol out at launch

The launch makes the three cells of every device at once, with the one payment right of each. Then everything is dealt
to the device that uses it: a device keeps its places at its own cells and its send cell's right, while the rights to
pay a barrier and a receive cell travel along the permutation, `σ⁻¹` one way and `σ` the other.
-/
module

public import proofs.«01_k».proof.Proof.Steps

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ Ghost ℕ

variable (m : (ℓ : Loc nD τ sig) → Buf (Elt F) ℓ) (σ : Equiv.Perm (Dev nD))

/-! ## The launch's ghost element -/

/-- All cells of the protocol. -/
def allCells : Finset (GSem nD τ sig) := Finset.univ.map ⟨fun ck : Dev nD × Fin 3 => cell ck.1 ck.2, cell_inj⟩

theorem right_inj : Function.Injective (fun ck : Dev nD × Fin 3 => ((cell ck.1 ck.2, 0, ()) : GSem nD τ sig × ℕ × Unit)) :=
  fun _ _ h => cell_inj (congrArg Prod.fst h)

/-- All payment rights: one per cell, of round 0. -/
def allRights : Finset (GSem nD τ sig × ℕ × Unit) := Finset.univ.map ⟨_, right_inj⟩

/-- The pipeline's part and the protocol's part of the launch. -/
def launchGhost : Ghost :=
  (initOf (Pipeline.cells cfgs cellOf_inj) (Pipeline.launchToks cfgs cellOf_inj), initOf allCells allRights)

theorem three (Φ : Fin 3 → sProp 𝕄) : bigSep Finset.univ Φ = iprop(Φ 0 ∗ Φ 1 ∗ Φ 2) :=
  bigSep_univ_eq_bigSepL [0, 1, 2] (by decide) (by decide) Φ

/-- What is minted for the cells of device `c`: their states, its places there, their rights. -/
def minted (c : Dev nD) : sProp 𝕄 :=
  iprop((bigSep Finset.univ fun k : Fin 3 => roundState cellEmb (sched m σ) (cell c k) 0)
    ∗ (bigSep Finset.univ fun k : Fin 3 => atPos cellEmb (cell c k) 0 ∅ 0)
    ∗ (bigSep Finset.univ fun k : Fin 3 => reached cellEmb (cell c k) 0)
    ∗ bigSep Finset.univ fun k : Fin 3 => dutyTok cellEmb (cell c k) 0 ())

theorem mint : BI.own (cellEmb (initOf allCells allRights)) ⊢ (|==> bigSep Finset.univ (minted m σ) : sProp 𝕄) := by
  have hcells (Φ : GSem nD τ sig → sProp 𝕄) :
      bigSep allCells Φ = bigSep Finset.univ fun c : Dev nD => bigSep Finset.univ fun k : Fin 3 => Φ (cell c k) := by
    unfold allCells; rw [bigSep_map, bigSep_univ_prod]; rfl
  have hrights : bigSep allRights (fun x => (dutyTok cellEmb x.1 x.2.1 x.2.2 : sProp 𝕄))
      = bigSep Finset.univ fun c : Dev nD => bigSep Finset.univ fun k : Fin 3 => dutyTok cellEmb (cell c k) 0 () := by
    unfold allRights; rw [bigSep_map, bigSep_univ_prod]; rfl
  iintro Hu
  imod (Rounds.fund cellEmb (sched m σ) allCells allRights) $$ Hu with ⟨Hst, Hre, Hat, Htok⟩
  imodintro
  ihave Hst := (Entails.of_eq (hcells fun g => roundState cellEmb (sched m σ) g 0)) $$ Hst
  ihave Hat := (Entails.of_eq (hcells fun g => atPos cellEmb g 0 ∅ 0)) $$ Hat
  ihave Hre := (Entails.of_eq (hcells fun g => reached cellEmb g 0)) $$ Hre
  ihave Htok := (Entails.of_eq hrights) $$ Htok
  unfold minted; simp only [bigSep_sep']
  isplitl [Hst]; · iexact Hst
  isplitl [Hat]; · iexact Hat
  isplitl [Hre]; · iexact Hre
  iexact Htok

/-! ## The counters -/

/-- The kernel's own two semaphores. -/
def osem : Fin 2 → SemLoc sig := fun j => role j.succ

/-- The kernel's own semaphores are the send and the receive semaphore, -/
theorem own_counters (c : Dev nD) : (Pipeline.ownSems0 (Ix := Unit) (Name := ℕ) (U := Ghost) (Lvl := ℕ) (Val := Elt F) (τ := τ) osem c : sProp 𝕄)
    = iprop(semVal (cell c 1) 0 ∗ semVal (cell c 2) 0) := by
  rw [Pipeline.ownSems0_eq_of_list c osem [0, 1] (by decide) (by decide)]; rfl
/-- and the barrier is the one that outlives it. -/
theorem barrier_counter (c : Dev nD) : (unscopedSems0 c : sProp 𝕄) = semVal (cell c 0) 0 := by
  unfold unscopedSems0; rw [bigSep_eq_bigSepL_of_eq [role 0] (by decide) (by decide)]; rfl

/-- The counters at zero with the cells' states make the cells' invariants. -/
theorem open_cells (c : Dev nD) :
    iprop(Pipeline.ownSems0 (Ix := Unit) (Name := ℕ) (U := Ghost) (Lvl := ℕ) (Val := Elt F) (τ := τ) osem c ∗ unscopedSems0 c
        ∗ bigSep Finset.univ fun k : Fin 3 => roundState cellEmb (sched m σ) (cell c k) 0)
      ⊢ (|={Set.univ}=> bigSep Finset.univ fun k : Fin 3 => iprop(∃ κ : ℕ, cellInv cellEmb (sched m σ) κ (cell c k)) : sProp 𝕄) := by
  have key : iprop((bigSep Finset.univ fun k : Fin 3 => semVal (cell c k) 0) ∗ bigSep Finset.univ fun k : Fin 3 => roundState cellEmb (sched m σ) (cell c k) 0)
      ⊢ (|={Set.univ}=> bigSep Finset.univ fun k : Fin 3 => iprop(∃ κ : ℕ, cellInv cellEmb (sched m σ) κ (cell c k)) : sProp 𝕄) := by
    rw [← bigSep_sep']
    exact (bigSep_mono fun k _ => (Rounds.body_intro cellEmb (sched m σ) (cell c k)).trans inv_alloc).trans (bigSep_fupd _ _)
  rw [own_counters, barrier_counter]
  iintro ⟨⟨H1, H2⟩, H0, Hst⟩
  iapply key
  isplitr [Hst]
  · rw [three]
    isplitl [H0]; · iexact H0
    isplitl [H1] <;> iassumption
  iexact Hst

/-! ## Dealing -/

/-- What everyone may know: every cell's invariant, and that every cell is at its first round. -/
def common (K : Dev nD × Fin 3 → ℕ) : sProp 𝕄 :=
  iprop((bigSep Finset.univ fun ck : Dev nD × Fin 3 => cellInv cellEmb (sched m σ) (K ck) (cell ck.1 ck.2))
    ∗ bigSep Finset.univ fun ck : Dev nD × Fin 3 => reached cellEmb (cell ck.1 ck.2) 0)

instance common_persistent (K : Dev nD × Fin 3 → ℕ) : BI.Persistent (common m σ K) := by unfold common; infer_instance

theorem common_inv (K : Dev nD × Fin 3 → ℕ) (c : Dev nD) (k : Fin 3) : common m σ K ⊢ cellInv cellEmb (sched m σ) (K (c, k)) (cell c k) := by
  unfold common
  iintro ⟨H, -⟩
  iapply (show (bigSep Finset.univ fun ck : Dev nD × Fin 3 => (cellInv cellEmb (sched m σ) (K ck) (cell ck.1 ck.2) : sProp 𝕄)) ⊢ cellInv cellEmb (sched m σ) (K (c, k)) (cell c k) from
    bigSep_elim (Finset.mem_univ (c, k)))
  iexact H
theorem common_reached (K : Dev nD × Fin 3 → ℕ) (c : Dev nD) (k : Fin 3) : common m σ K ⊢ reached cellEmb (cell c k) 0 := by
  unfold common
  iintro ⟨-, H⟩
  iapply (show (bigSep Finset.univ fun ck : Dev nD × Fin 3 => (reached cellEmb (cell ck.1 ck.2) 0 : sProp 𝕄)) ⊢ reached cellEmb (cell c k) 0 from
    bigSep_elim (Finset.mem_univ (c, k)))
  iexact H

/-- A device's share from the common knowledge, its places and its rights. -/
theorem share_intro (K : Dev nD × Fin 3 → ℕ) (c : Dev nD) : iprop(common m σ K ∗ places c ∗ payments σ c) ⊢ iprop(∃ K, share m σ K c) := by
  unfold share invariants firstRounds
  iintro ⟨#HC, Hpl, Hpay⟩
  iexists K
  isplitr
  · isplitr; · iapply (common_inv m σ K c 0); iexact HC
    isplitr; · iapply (common_inv m σ K c 1); iexact HC
    isplitr; · iapply (common_inv m σ K c 2); iexact HC
    isplitr; · iapply (common_inv m σ K (σ.symm c) 0); iexact HC
    iapply (common_inv m σ K (σ c) 2); iexact HC
  isplitr
  · isplitr; · iapply (common_reached m σ K (σ.symm c) 0); iexact HC
    isplitr; · iapply (common_reached m σ K c 1); iexact HC
    iapply (common_reached m σ K (σ c) 2); iexact HC
  isplitl [Hpl]; · iexact Hpl
  iexact Hpay

/-- The rights along the permutation: a barrier's goes to `σ` of its owner, a receive cell's to `σ⁻¹` of it. -/
theorem deal_rights :
    (bigSep Finset.univ fun c : Dev nD => bigSep Finset.univ fun k : Fin 3 => (dutyTok cellEmb (cell c k) 0 () : sProp 𝕄))
      ⊢ bigSep Finset.univ fun c : Dev nD => payments σ c := by
  unfold payments
  simp only [three, bigSep_sep']
  rw [bigSep_univ_equiv σ.symm (fun c : Dev nD => (dutyTok cellEmb (cell c 0) 0 () : sProp 𝕄)),
    bigSep_univ_equiv σ (fun c : Dev nD => (dutyTok cellEmb (cell c 2) 0 () : sProp 𝕄))]

/-- Common knowledge may be used once per device. -/
theorem for_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- A device's opened cells, its places, its cells' first rounds, its cells' rights. -/
def openedCells (c : Dev nD) : sProp 𝕄 :=
  iprop((bigSep Finset.univ fun k : Fin 3 => iprop(∃ κ : ℕ, cellInv cellEmb (sched m σ) κ (cell c k)))
    ∗ (bigSep Finset.univ fun k : Fin 3 => atPos cellEmb (cell c k) 0 ∅ 0)
    ∗ (bigSep Finset.univ fun k : Fin 3 => reached cellEmb (cell c k) 0)
    ∗ bigSep Finset.univ fun k : Fin 3 => dutyTok cellEmb (cell c k) 0 ())

theorem open_device (c : Dev nD) :
    iprop(Pipeline.ownSems0 (Ix := Unit) (Name := ℕ) (U := Ghost) (Lvl := ℕ) (Val := Elt F) (τ := τ) osem c ∗ unscopedSems0 c ∗ minted m σ c)
      ⊢ (|={Set.univ}=> openedCells m σ c : sProp 𝕄) := by
  unfold minted openedCells
  iintro ⟨Ho, Hu, Hst, Hrest⟩
  imod (open_cells m σ c) $$ [Ho Hu Hst] with Hinv
  · isplitl [Ho]; · iexact Ho
    isplitl [Hu] <;> iassumption
  imodintro
  isplitl [Hinv] <;> iassumption

theorem places_eq (c : Dev nD) : (bigSep Finset.univ fun k : Fin 3 => (atPos cellEmb (cell c k) 0 ∅ 0 : sProp 𝕄)) = places c := by
  unfold places; rw [three]

/-- The opened cells of all devices, dealt out. -/
theorem deal_out : (bigSep Finset.univ fun c => (openedCells m σ c : sProp 𝕄)) ⊢ bigSep Finset.univ fun c => iprop(∃ K, share m σ K c) := by
  unfold openedCells
  simp only [bigSep_sep']
  rw [← bigSep_univ_prod (fun ck : Dev nD × Fin 3 => iprop(∃ κ : ℕ, (cellInv cellEmb (sched m σ) κ (cell ck.1 ck.2) : sProp 𝕄))),
    ← bigSep_univ_prod (fun ck : Dev nD × Fin 3 => (reached cellEmb (cell ck.1 ck.2) 0 : sProp 𝕄))]
  iintro ⟨HI, Hat, #HR, Htok⟩
  ihave HK := (BI.bigSep_exists_pi Finset.univ (fun (ck : Dev nD × Fin 3) (κ : ℕ) => (cellInv cellEmb (sched m σ) κ (cell ck.1 ck.2) : sProp 𝕄))) $$ HI
  icases HK with ⟨%K, #HI⟩
  ihave Hpay := (deal_rights σ) $$ Htok
  iapply (for_each (R := common m σ K) fun c => share_intro m σ K c)
  isplitr
  · unfold common; isplitl; · iexact HI
    iexact HR
  rw [bigSep_sep']
  isplitl [Hat]
  · iapply (Entails.of_eq (bigSep_congr (s := Finset.univ) fun (c : Dev nD) _ => places_eq c))
    iexact Hat
  iexact Hpay

/-- The launch's step over all devices: counters and minted pieces become everyone's share. -/
theorem deal : (bigSep Finset.univ fun c => iprop(Pipeline.ownSems0 (Ix := Unit) (Name := ℕ) (U := Ghost) (Lvl := ℕ) (Val := Elt F) (τ := τ) osem c
      ∗ unscopedSems0 c ∗ minted m σ c) : sProp 𝕄)
    ⊢ |={Set.univ}=> bigSep Finset.univ fun c => iprop(∃ K, share m σ K c) :=
  ((bigSep_mono fun c _ => open_device m σ c).trans (bigSep_fupd _ _)).trans (BI.fupd_mono (deal_out m σ))

/-! ## The debts, seen by the creditor -/

/-- The barrier of `c` is owed one unit, by `σ c` alone. -/
theorem owed_barrier (d c : Dev nD) : owesAll σ d (cell c 0) () = if d = σ c then 1 else 0 := by
  unfold owesAll owesBlock
  rw [Pi.add_apply, Finsupp.add_apply, tallyAt_ne_cell (fun h => absurd (cell_eq_iff.mp h).2 (by decide)), Finsupp.zero_apply, Nat.zero_add, tallyAt_apply]
  refine if_congr ?_ rfl rfl
  rw [and_iff_left rfl, cell_eq_iff, and_iff_left rfl, Equiv.eq_symm_apply]
  exact eq_comm

/-- The receive cell of `c` is owed one block, by `σ⁻¹ c` alone. -/
theorem owed_receive (d c : Dev nD) : owesAll σ d (cell c 2) () = if d = σ.symm c then credit else 0 := by
  unfold owesAll owesBlock
  rw [Pi.add_apply, Finsupp.add_apply, tallyAt_ne_cell (g := cell (σ.symm d) 0) (fun h => absurd (cell_eq_iff.mp h).2 (by decide)), Finsupp.zero_apply, Nat.add_zero,
    tallyAt_apply]
  refine if_congr ?_ rfl rfl
  rw [and_iff_left rfl, cell_eq_iff, and_iff_left rfl, Equiv.eq_symm_apply]
  exact eq_comm

theorem launch_barrier (c : Dev nD) :
    tallyOn (cell c 0) (launchCredit (Pipeline.owing (owesAll σ)) 0 (cell c 0)) = (tallyAt (cell c 0) () 1 : CellTallies nD τ sig Unit) := by
  unfold tallyAt; refine congrArg _ (Finsupp.ext fun u => ?_); cases u
  rw [Pipeline.launchCredit_owing, Finsupp.single_eq_same, Finset.sum_congr rfl fun d _ => owed_barrier σ d c,
    Finset.sum_ite_eq' Finset.univ (σ c) fun _ => 1, if_pos (Finset.mem_univ _)]

theorem launch_receive (c : Dev nD) :
    tallyOn (cell c 2) (launchCredit (Pipeline.owing (owesAll σ)) 0 (cell c 2)) = (tallyAt (cell c 2) () credit : CellTallies nD τ sig Unit) := by
  unfold tallyAt; refine congrArg _ (Finsupp.ext fun u => ?_); cases u
  rw [Pipeline.launchCredit_owing, Finsupp.single_eq_same, Finset.sum_congr rfl fun d _ => owed_receive σ d c,
    Finset.sum_ite_eq' Finset.univ (σ.symm c) fun _ => credit, if_pos (Finset.mem_univ _)]

theorem claims_intro (c : Dev nD) : (Pipeline.launchCred (owesAll σ) c : sProp 𝕄) ⊢ claims c := by
  unfold Pipeline.launchCred claims
  rw [bigSep_univ_at _ (role 0), launch_barrier]
  refine sep_mono_right ?_
  rw [← launch_receive σ]
  exact bigSep_elim (Finset.mem_erase.mpr ⟨fun h => absurd (role_inj h) (by decide), Finset.mem_univ _⟩)

end Cert.Permute

end
-- ==== Proof.Run.lean ====
/-
# The run of all eight devices

From any memory whose copies of `pi` spell `σ`, every execution of `main` ends; then device `c`'s result is the block
of `σ⁻¹ c`, the arguments are as before, and every counter is at zero. The float values `F` are arbitrary: nothing is
computed, so one run serves the compiled and the idealized kernel.
-/
module

public import proofs.«01_k».proof.Proof.Body
public import proofs.«01_k».proof.Proof.Dealing
public import Idealize.ShloMosaic.Lib.Pipeline.Value
public import Idealize.ShloMosaic.Lib.Pipeline.CollectiveSegs

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ Ghost ℕ

variable (m : (ℓ : Loc nD τ sig) → Buf (Elt F) ℓ) (ρ : Dev nD → PrngReg) (σ : Equiv.Perm (Dev nD))

theorem ownFacts : Pipeline.OwnSemFacts cfg0.spec osem := by decide

theorem full_shares (c : Dev nD) (w : Fin cfg0.W) : (dats m σ 0 c).share w = fullShare := by unfold Dat.share; split <;> rfl

/-- Entering the kernel: the launch's pieces are the body's start. -/
theorem enter (c : Dev nD) :
    iprop(Pipeline.unscopedRestP Pipeline.Prefetch.none cfg0.spec c (fun b => m ((c : Thread nD τ).loc b)) ∗ levAts levelled level
        ∗ Pipeline.launchCred (owesAll σ) c ∗ prngReg c (ρ c) ∗ ∃ K, share m σ K c)
      ⊢ |={Set.univ}=> iprop(start m σ c ∗ emp) := by
  iintro ⟨-, Hlev, Hcr, -, Hs⟩
  ihave Hcl := (claims_intro (F := F) σ c) $$ Hcr
  imodintro
  unfold start
  isplitl
  · isplitl [Hs]; · iexact Hs
    isplitl [Hcl]; · iexact Hcl
    iexact Hlev
  iempintro

theorem begins (c : Dev nD) :
    iprop(start m σ c ∗ Pipeline.prefHeld Pipeline.Prefetch.none c (fun _ => fullShare.right) (fun k => k.elim0) ∗ Pipeline.scopedRest cfg0.spec c)
      ⊢ (dats m σ 0 c).Φ 0 := by
  rw [show (dats m σ 0 c).Φ 0 = start m σ c from rfl]
  iintro ⟨Hs, -, -⟩
  iexact Hs

/-- Leaving it: the three counters, settled, go back. -/
theorem ends (c : Dev nD) :
    (dats m σ 0 c).Φ (Fin.last cfg0.N) ⊢ iprop(unscopedSems0 c ∗ Pipeline.ownSems0 osem c ∗ Pipeline.scopedRest cfg0.spec c) := by
  rw [show (dats m σ 0 c).Φ (Fin.last cfg0.N) = settled c from rfl, scopedRest0_eq, own_counters, barrier_counter]
  unfold settled
  iintro ⟨H0, H1, H2⟩
  isplitl [H0]; · iexact H0
  isplitl [H1 H2]
  · isplitl [H1] <;> iassumption
  iempintro

theorem staging_waits (c : Dev nD) : (levAts levelled level : sProp 𝕄) ⊢ Pipeline.cellsWaits cfgs (dats m σ) () 0 c :=
  Pipeline.cellsWaits_intro cfgs (dats m σ) () 0 c fun w s t =>
    may_wait_staging σ c _ (by fin_cases w <;> fin_cases s <;> decide) _ (by
      rcases t with ⟨_ | _, ht⟩
      · exact Or.inl rfl
      · exact Or.inr rfl)

variable {m σ}

set_option maxRecDepth 8000 in
/-- The run, the arrays as the pipeline leaves them. -/
theorem run_arrays (h : Agrees m σ) :
    θ_run defs (onTc (τ := τ) (main (F := F))) ⟨m, fun _ => 0, ρ⟩ (fun r =>
      (∀ (c : Dev nD) (w : Fin cfg0.W), r.2.mem ((cfg0.win w).arr.view.loc (c : Thread nD τ)) = (dats m σ 0 c).arrAt w cfg0.N)
        ∧ r.2.sem = fun _ => 0) :=
  Pipeline.θ_run_region_owing_glob_pf (fun p => (cfgs p).toPCfg) (fun p => (cfgs p).toPCfg_adm) (dats m σ) () cellOf_inj (0 : Fin 1)
    winFacts0.to₀ ownFacts (Pipeline.PreFacts.none _) pipeEmb defs₀ 𝒱₀ m ρ main
    (hmain := fun _ => rfl)
    (hbody := body_obligation h) (hne := fun w => by fin_cases w <;> exact Nat.succ_pos _) (harr := arr_whole0) (hstage := stage_whole0)
    (hshare := full_shares m σ) (hdistinct := winFacts0.arr_inj)
    (O₀ := owesAll σ) (howed₀ := fun _ => rfl) (howedN := fun _ => rfl)
    (L := levelled) (lv := level) (hL := levelled_other) (hwaits := staging_waits m σ)
    (G := minted m σ) (G' := fun c => iprop(∃ K, share m σ K c)) (u₀ := launchGhost)
    (hu₀ := by
      unfold launchGhost
      iintro Hu
      ihave H := (ownU_pair _ _) $$ Hu
      icases H with ⟨HP, HX⟩
      imod (mint m σ) $$ HX with HG
      imodintro
      isplitl [HP] <;> iassumption)
    (hglob := deal m σ)
    (hA := fun _ _ => rfl) (hpf := fun _ k => k.elim0)
    (X := start m σ) (Y := fun c => unscopedSems0 c) (Z := fun _ => iprop(emp))
    (hX := enter m ρ σ) (hin := begins m σ) (hout := ends m σ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

variable (m σ)

/-- The arguments stay as they were. -/
theorem pi_stays (c : Dev nD) : (dats m σ 0 c).arrAt (0 : Fin 3) cfg0.N = m ((c : Thread nD τ).loc main_arg1) :=
  (dats m σ 0 c).arrAt_in (0 : Fin 3) rfl _
theorem x_stays (c : Dev nD) : (dats m σ 0 c).arrAt (1 : Fin 3) cfg0.N = m ((c : Thread nD τ).loc main_arg0) :=
  (dats m σ 0 c).arrAt_in (1 : Fin 3) rfl _

/-- The one write-back covers the result. -/
theorem covers (i : S1x1024x1024.Idx) : ∃ t : Fin cfg0.N, (cfg0.win (2 : Fin 3)).flush t = true ∧ i ∈ ((cfg0.win (2 : Fin 3)).blk t).view.set := by
  refine ⟨t0_0, rfl, ?_⟩
  show i ∈ ((View.whole main_v1).slice (win0_2.rect t0_0)).set
  rw [View.set_slice_whole, Rect.mem_set_unit]
  intro a
  have hi := (i a).isLt
  fin_cases a
  · exact ⟨Nat.zero_le _, hi⟩
  · exact ⟨Nat.zero_le _, hi⟩
  · exact ⟨Nat.zero_le _, hi⟩

/-- The result of device `c` is the block of `x` that device `σ⁻¹ c` had. -/
theorem result_is (c : Dev nD) : (dats m σ 0 c).arrAt (2 : Fin 3) cfg0.N = m ((σ.symm c : Thread nD τ).loc main_arg0) := by
  refine (dats m σ 0 c).arrAt_eq_of_cover (2 : Fin 3) (m ((σ.symm c : Thread nD τ).loc main_arg0)) (fun t _ => ?_) covers
  rw [fin_N0 t]
  rfl

variable {m σ}

/-- The kernel permutes: it ends, device `c` holds the block of `σ⁻¹ c`, the arguments are unchanged, all counters are at zero. -/
theorem run (h : Agrees m σ) :
    θ_run defs (onTc (τ := τ) (main (F := F))) ⟨m, fun _ => 0, ρ⟩ (fun r =>
      (∀ c : Dev nD, r.2.mem ((c : Thread nD τ).loc main_v1) = m ((σ.symm c : Thread nD τ).loc main_arg0)
          ∧ r.2.mem ((c : Thread nD τ).loc main_arg0) = m ((c : Thread nD τ).loc main_arg0)
          ∧ r.2.mem ((c : Thread nD τ).loc main_arg1) = m ((c : Thread nD τ).loc main_arg1))
        ∧ r.2.sem = fun _ => 0) :=
  (θ_run defs _ _).mono (fun _ hr => ⟨fun c => ⟨(hr.1 c (2 : Fin 3)).trans (result_is m σ c), (hr.1 c (1 : Fin 3)).trans (x_stays m σ c),
    (hr.1 c (0 : Fin 3)).trans (pi_stays m σ c)⟩, hr.2⟩) (run_arrays ρ h)

end Cert.Permute

end
-- ==== Proof.Ref.lean ====
/-
# The reference: block `c` of its result is block `σ⁻¹ c` of `x`

`x[argsort(pi)]` sorts the positions 0 to 7 by the words of `pi`, and gathers the blocks of `x` in that order. Where
`pi` spells the permutation `σ`, position `c` of the sorted list is `σ⁻¹ c`: listing the positions as `σ⁻¹ 0, …, σ⁻¹ 7`
puts their words in order, and no two words are equal. The indices are never negative, so the wrap-around of negative
ones does nothing, nor does the clamping of the gather; the two casts are the identity over the extended reals.
-/
module

public import proofs.«01_k».proof.Proof.Table
public import proofs.«01_k».proof.Proof.Gen.ReferenceIdeal.Run
public import Idealize.ShloMosaic.Lib.SortPrefix
public import Idealize.ShloMosaic.Lib.Layout
public import Idealize.ShloMosaic.PureOps.Ideal

@[expose] public section

noncomputable section

namespace Cert.Permute.Ref

open Cert.ReferenceIdeal Cert.ReferenceIdeal.Gen
open Idealize.ShloMosaic Idealize.ShloMosaic.TcCoe Idealize.SL.Sem

/-- The signed comparison of two small words is that of the numbers. -/
theorem slt_small (a b : Fin 8) : (IntOp.cmpi .slt (BitVec.ofNat 32 a.val) (BitVec.ofNat 32 b.val) == 1#1) = decide (a < b) := by
  revert a b; decide

/-- Sorting the positions by a permutation's values lists the inverse permutation. -/
theorem sorted_by_perm (σ : Equiv.Perm (Fin 8)) (k : Fin 8) :
    sortedFrom (fun p q : Fin 8 => decide (σ p < σ q)) k = σ.symm k := by
  have hB : StrictTotalBefore (fun p q : Fin 8 => decide (σ p < σ q)) :=
    { irrefl := fun a => by simp
      trans := fun a b c h h' => by simp only [decide_eq_true_eq] at *; exact h.trans h'
      total := fun a b h => by
        simp only [decide_eq_true_eq]
        exact lt_or_gt_of_ne (fun e => h (σ.injective e)) }
  exact hB.sortedFrom_eq_of_prefix le_rfl (fun i => σ.symm i) σ.symm.injective
    (fun i j hij => by simpa using hij.le) (fun i p hp => absurd (σ.symm_apply_apply p) (hp (σ p))) k

/-- What `argsort` returns of a table that spells `σ`. -/
theorem argsort_word (t : IVec S8 32) (σ : Equiv.Perm (Fin 8)) (ht : ∀ j : Fin 8, t (pos j) = BitVec.ofNat 32 (σ j).val) (k : Fin 8) :
    (Host.sort2 S8 0 comparator_i32_i32_d0 t (iotaInDim S8 32 0)).2 (pos k) = BitVec.ofNat 32 (σ.symm k).val := by
  have along : ∀ p : Fin 8, (pos k : S8.Idx).along (0 : Fin 1) p = pos p := fun p => by
    funext a; fin_cases a; exact Fin.ext rfl
  have before : (fun p q : Fin 8 => comparator_i32_i32_d0 (t ((pos k : S8.Idx).along (0 : Fin 1) p), iotaInDim S8 32 0 ((pos k : S8.Idx).along (0 : Fin 1) p))
      (t ((pos k : S8.Idx).along (0 : Fin 1) q), iotaInDim S8 32 0 ((pos k : S8.Idx).along (0 : Fin 1) q)) == 1#1) = fun p q : Fin 8 => decide (σ p < σ q) := by
    funext p q
    rw [along p, along q]
    show (IntOp.cmpi .slt (t (pos p)) (t (pos q)) == 1#1) = _
    rw [ht p, ht q]
    exact slt_small _ _
  have source := (congrArg (fun B => sortedFrom B k) before).trans (sorted_by_perm σ k)
  exact (congrArg (fun p : Fin 8 => iotaInDim S8 32 0 ((pos k : S8.Idx).along (0 : Fin 1) p)) source).trans
    (congrArg (iotaInDim S8 32 0) (along (σ.symm k)))

/-- A vector of eight as a column: row `k` holds its word `k`. -/
theorem column_apply (v : IVec S8 32) (k : Fin 8) (i : S8x1.Idx) (hi : (i 0).val = k.val) :
    broadcastInDim S8x1 ![0] bcast_S8_S8x1_0 v i = v (pos k) := by
  unfold broadcastInDim
  refine congrArg v (funext fun a => Fin.ext ?_)
  fin_cases a
  exact hi

/-- The start index of block `k`: the sorted position, which the wrap-around of negative indices leaves alone. -/
theorem start_word (t : IVec S8 32) (σ : Equiv.Perm (Fin 8)) (ht : ∀ j : Fin 8, t (pos j) = BitVec.ofNat 32 (σ j).val) (k : Fin 8) (i : S8x1.Idx)
    (hi : (i 0).val = k.val) (s : IVec S8 32) (hs : s = (Host.sort2 S8 0 comparator_i32_i32_d0 t (iotaInDim S8 32 0)).2) :
    broadcastInDim S8x1 ![0] bcast_S8_S8x1_0 (select (cmpi .slt s (broadcastInDim S8 ![] bcast_S_S8 (constantI S_ 32 0#32)))
      (addi s (broadcastInDim S8 ![] bcast_S_S8 (constantI S_ 32 8#32))) s) i = BitVec.ofNat 32 (σ.symm k).val := by
  have hk : s (pos k) = BitVec.ofNat 32 (σ.symm k).val := hs ▸ argsort_word t σ ht k
  have nonneg : ∀ a : Fin 8, IntOp.cmpi .slt (BitVec.ofNat 32 a.val) 0#32 = 0#1 := by decide
  rw [column_apply _ k i hi]
  show (if IntOp.cmpi .slt (s (pos k)) 0#32 = 1#1 then _ else s (pos k)) = _
  rw [hk, nonneg]
  rfl

/-- The shape record of the reference's gather of whole blocks along axis 0. -/
abbrev blocks : GatherDims S8x1024x1024 S8x1 S8x1024x1024 := gather_S8x1024x1024_S8x1_S8x1024x1024_12_0_n_n_0_1_110241024

/-- The gather read at an index: axis 0 is the start index (signed, clamped to 0 … 7), the other two stay. -/
theorem gather_apply {α : Type} (x : S8x1024x1024.Idx → α) (idx : IVec S8x1 32) (i r : S8x1024x1024.Idx) (k : S8x1.Idx)
    (hk0 : (k 0).val = (i 0).val) (h0 : (r 0).val = min (idx k).toInt.toNat 7) (h1 : (r 1).val = (i 1).val) (h2 : (r 2).val = (i 2).val) :
    Host.gather blocks x idx i = x r := by
  unfold Host.gather
  refine congrArg x (funext fun a => Fin.ext ?_)
  show blocks.start i idx a + blocks.batchCoord i a + blocks.offCoord i a = (r a).val
  rw [GatherDims.batchCoord_eq_zero _ _ _ List.not_mem_nil, Nat.add_zero]
  fin_cases a
  · show blocks.start i idx 0 + blocks.offCoord i 0 = (r 0).val
    rw [GatherDims.offCoord_eq_zero _ _ _ (fun h => ((GatherDims.mem_sKept _ _).mp h).1 (List.mem_singleton.mpr rfl)), Nat.add_zero, h0]
    unfold GatherDims.start
    rw [dif_pos (show (0 : Fin 3) ∈ blocks.startIndexMap from List.mem_singleton.mpr rfl)]
    refine congrArg (fun j : S8x1.Idx => min (idx j).toInt.toNat 7) (funext fun b => Fin.ext ?_)
    fin_cases b
    · exact hk0.symm
    · show 0 = (k 1).val
      have := (k 1).isLt
      change (k 1).val < 1 at this
      omega
  · exact (Nat.zero_add _).trans h1.symm
  · exact (Nat.zero_add _).trans h2.symm

variable {F : FTy → Type} [FloatOps F]

/-- The blocks of `x` in the order that `argsort` of `t` lists them: the reference before its two casts. -/
def sortedBlocks (x : FVec F S8x1024x1024 .bf16) (t : IVec S8 32) : FVec F S8x1024x1024 .bf16 :=
  let s := (Host.sort2 S8 0 comparator_i32_i32_d0 t (iotaInDim S8 32 0)).2
  Host.gather blocks x (broadcastInDim S8x1 ![0] bcast_S8_S8x1_0 (select (cmpi .slt s (broadcastInDim S8 ![] bcast_S_S8 (constantI S_ 32 0#32)))
    (addi s (broadcastInDim S8 ![] bcast_S_S8 (constantI S_ 32 8#32))) s))

omit [FloatOps F] in
/-- Where `t` spells `σ`, block `c` of them is block `σ⁻¹ c` of `x`. -/
theorem sortedBlocks_block (t : IVec S8 32) (σ : Equiv.Perm (Fin 8)) (ht : ∀ j : Fin 8, t (pos j) = BitVec.ofNat 32 (σ j).val)
    (x : FVec F S8x1024x1024 .bf16) (c : Fin 8) :
    Layout.block ⟨3, ![1, 1024, 1024]⟩ ⟨3, ![8, 1024, 1024]⟩ 0 8 c (sortedBlocks x t)
      = Layout.block ⟨3, ![1, 1024, 1024]⟩ ⟨3, ![8, 1024, 1024]⟩ 0 8 (σ.symm c) x := by
  funext i
  rw [Layout.block_apply, Layout.block_apply]
  have i0 : (i 0).val = 0 := by have := (i 0).isLt; change (i 0).val < 1 at this; omega
  refine gather_apply x _ _ _ (fun a => ⟨if a = 0 then c.val else 0, ?_⟩) ?_ ?_ ?_ ?_
  · fin_cases a
    · exact c.isLt
    · exact Nat.one_pos
  · show c.val = c.val * 1 + (i 0).val
    omega
  · rw [start_word t σ ht c _ rfl _ rfl]
    have small : ∀ a : Fin 8, min (BitVec.ofNat 32 a.val).toInt.toNat 7 = a.val := by decide
    rw [small]
    show (σ.symm c).val * 1 + (i 0).val = (σ.symm c).val
    omega
  · rfl
  · rfl

/-- The reference runs: its result is the sorted blocks, cast up and down again, and its arguments are unchanged. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c : Thread nD τ).loc main_v9)
            = truncf .bf16 (extf .f32 (sortedBlocks (m ((c : Thread nD τ).loc main_arg0)) (m ((c : Thread nD τ).loc main_arg1))) bitsLt_bf16_f32) bitsLt_bf16_f32
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun r h => ⟨h, sem_eq_zero_of_no_sems (by decide) r.2⟩) (Cert.ReferenceIdeal.Value.run m ρ)

/-- Over the extended reals the two casts change nothing. -/
theorem casts (v : FVec Ideal S8x1024x1024 .bf16) : truncf .bf16 (extf .f32 v bitsLt_bf16_f32) bitsLt_bf16_f32 = v := rfl

end Cert.Permute.Ref

end
-- ==== Proof.Rolls.lean ====
/-
# The rolls: what each precondition says of `pi`

Precondition `roll_k` compares a device's copy of `pi` with `arange(8)` rolled by `k`, word by word, so it pins word
`j` to `j - k` (modulo 8). Read at all devices it is `Agrees m (roll k)`, with `roll k` the permutation `j ↦ j - k`.
-/
module

public import proofs.«01_k».proof.Proof.Table
public import Idealize.ShloMosaic.PureOps.BitExact
public import proofs.«01_k».proof.Proof.Gen.Pre_roll_1_Kernel
public import proofs.«01_k».proof.Proof.Gen.Pre_roll_2_Kernel
public import proofs.«01_k».proof.Proof.Gen.Pre_roll_3_Kernel
public import proofs.«01_k».proof.Proof.Gen.Pre_roll_4_Kernel
public import proofs.«01_k».proof.Proof.Gen.Pre_roll_5_Kernel
public import proofs.«01_k».proof.Proof.Gen.Pre_roll_6_Kernel
public import proofs.«01_k».proof.Proof.Gen.Pre_roll_7_Kernel

@[expose] public section

noncomputable section

namespace Cert.Permute

open Cert.KernelIdeal
open Idealize.ShloMosaic Idealize.ShloMosaic.TcCoe

variable {F : FTy → Type} [FloatOps F]

/-- Roll by `k`: block `j` goes to device `j - k`, around the eight. -/
def roll (k : Fin 8) : Equiv.Perm (Dev nD) where
  toFun := fun j : Fin 8 => j - k
  invFun := fun j : Fin 8 => j + k
  left_inv := by revert k; decide
  right_inv := by revert k; decide

/-- A table that compares equal to `w`, word by word, spells what `w` spells. -/
theorem spells_of_compare (t w : IVec S8 32) (σ : Equiv.Perm (Dev nD)) (hw : ∀ j, w (pos j) = BitVec.ofNat 32 (σ j).val)
    (h : cmpi .eq t w = fun _ => 1#1) (j : Dev nD) : t (pos j) = BitVec.ofNat 32 (σ j).val := by
  have e : IntOp.cmpi .eq (t (pos j)) (w (pos j)) = 1#1 := congrFun h (pos j)
  rw [← hw j]
  by_contra hne
  have e0 : IntOp.cmpi .eq (t (pos j)) (w (pos j)) = 0#1 := by
    show BitVec.ofBool (t (pos j) == w (pos j)) = 0#1
    rw [beq_false_of_ne hne]
    rfl
  rw [e0] at e
  exact absurd e (by decide)

/-- Each rolled table, word by word. -/
theorem words_1 : ∀ j : Fin 8, Cert.Pre_roll_1_Kernel.fn_roll_static (F := Bits) (iotaInDim S8 32 0) (pos j) = BitVec.ofNat 32 (roll 1 j).val := by
  decide +kernel
theorem words_2 : ∀ j : Fin 8, Cert.Pre_roll_2_Kernel.fn_roll_static (F := Bits) (iotaInDim S8 32 0) (pos j) = BitVec.ofNat 32 (roll 2 j).val := by
  decide +kernel
theorem words_3 : ∀ j : Fin 8, Cert.Pre_roll_3_Kernel.fn_roll_static (F := Bits) (iotaInDim S8 32 0) (pos j) = BitVec.ofNat 32 (roll 3 j).val := by
  decide +kernel
theorem words_4 : ∀ j : Fin 8, Cert.Pre_roll_4_Kernel.fn_roll_static (F := Bits) (iotaInDim S8 32 0) (pos j) = BitVec.ofNat 32 (roll 4 j).val := by
  decide +kernel
theorem words_5 : ∀ j : Fin 8, Cert.Pre_roll_5_Kernel.fn_roll_static (F := Bits) (iotaInDim S8 32 0) (pos j) = BitVec.ofNat 32 (roll 5 j).val := by
  decide +kernel
theorem words_6 : ∀ j : Fin 8, Cert.Pre_roll_6_Kernel.fn_roll_static (F := Bits) (iotaInDim S8 32 0) (pos j) = BitVec.ofNat 32 (roll 6 j).val := by
  decide +kernel
theorem words_7 : ∀ j : Fin 8, Cert.Pre_roll_7_Kernel.fn_roll_static (F := Bits) (iotaInDim S8 32 0) (pos j) = BitVec.ofNat 32 (roll 7 j).val := by
  decide +kernel

/-- Each precondition, of one device's blocks: its table is the roll. -/
theorem spells_1 (x : FVec F S1x1024x1024 .bf16) (t : IVec S8 32) (h : Cert.Pre_roll_1_Kernel.fn (F := F) x t = fun _ => 1#1) (j : Dev nD) :
    t (pos j) = BitVec.ofNat 32 (roll 1 j).val :=
  spells_of_compare t _ (roll 1) words_1 h j
theorem spells_2 (x : FVec F S1x1024x1024 .bf16) (t : IVec S8 32) (h : Cert.Pre_roll_2_Kernel.fn (F := F) x t = fun _ => 1#1) (j : Dev nD) :
    t (pos j) = BitVec.ofNat 32 (roll 2 j).val :=
  spells_of_compare t _ (roll 2) words_2 h j
theorem spells_3 (x : FVec F S1x1024x1024 .bf16) (t : IVec S8 32) (h : Cert.Pre_roll_3_Kernel.fn (F := F) x t = fun _ => 1#1) (j : Dev nD) :
    t (pos j) = BitVec.ofNat 32 (roll 3 j).val :=
  spells_of_compare t _ (roll 3) words_3 h j
theorem spells_4 (x : FVec F S1x1024x1024 .bf16) (t : IVec S8 32) (h : Cert.Pre_roll_4_Kernel.fn (F := F) x t = fun _ => 1#1) (j : Dev nD) :
    t (pos j) = BitVec.ofNat 32 (roll 4 j).val :=
  spells_of_compare t _ (roll 4) words_4 h j
theorem spells_5 (x : FVec F S1x1024x1024 .bf16) (t : IVec S8 32) (h : Cert.Pre_roll_5_Kernel.fn (F := F) x t = fun _ => 1#1) (j : Dev nD) :
    t (pos j) = BitVec.ofNat 32 (roll 5 j).val :=
  spells_of_compare t _ (roll 5) words_5 h j
theorem spells_6 (x : FVec F S1x1024x1024 .bf16) (t : IVec S8 32) (h : Cert.Pre_roll_6_Kernel.fn (F := F) x t = fun _ => 1#1) (j : Dev nD) :
    t (pos j) = BitVec.ofNat 32 (roll 6 j).val :=
  spells_of_compare t _ (roll 6) words_6 h j
theorem spells_7 (x : FVec F S1x1024x1024 .bf16) (t : IVec S8 32) (h : Cert.Pre_roll_7_Kernel.fn (F := F) x t = fun _ => 1#1) (j : Dev nD) :
    t (pos j) = BitVec.ofNat 32 (roll 7 j).val :=
  spells_of_compare t _ (roll 7) words_7 h j

end Cert.Permute

end
-- ==== Proof.Values.lean ====
/-
# The claims, for any permutation

Each claim of the certificate supposes one roll of `pi`. Here they are proved of any permutation `σ` that every
device's copy of `pi` spells, so that a roll only has to be named.
-/
module

public import proofs.«01_k».proof.Defs
public import proofs.«01_k».proof.Proof.Gen.Kernel
public import proofs.«01_k».proof.Proof.Run
public import proofs.«01_k».proof.Proof.Ref
public import proofs.«01_k».proof.Proof.Rolls
public import Idealize.ShloMosaic.PureOps.BitExact

@[expose] public section

noncomputable section

namespace Cert.Permute

open Cert.KernelIdeal
open Idealize.ShloMosaic Idealize.ShloMosaic.TcCoe Idealize.SL.Sem

variable {F : FTy → Type} [FloatOps F] {m : (ℓ : Loc nD τ sig) → Buf (Elt F) ℓ} {σ : Equiv.Perm (Dev nD)}

/-- The frame of the kernel, over any float values: `run` with the result forgotten. -/
theorem frame (ρ : Dev nD → PrngReg) (h : Agrees m σ) :
    θ_run defs (onTc (τ := τ) (main (F := F))) ⟨m, fun _ => 0, ρ⟩ (fun r =>
      (∀ c : Dev nD, r.2.mem ((c : Thread nD τ).loc main_arg0) = m ((c : Thread nD τ).loc main_arg0)
          ∧ r.2.mem ((c : Thread nD τ).loc main_arg1) = m ((c : Thread nD τ).loc main_arg1))
        ∧ r.2.sem = fun _ => 0) :=
  (θ_run defs _ _).mono (fun _ hr => ⟨fun c => (hr.1 c).2, hr.2⟩) (run ρ h)

/-- The kernel before idealization has the same text: its one kernel function is the idealized program's. -/
theorem same_bodies : @Cert.Kernel.defs₀ Bits _ = @Cert.KernelIdeal.defs₀ Bits _ := by
  unfold Cert.Kernel.defs₀ Cert.KernelIdeal.defs₀
  congr 1
  funext l x
  match l, x with
  | 0, _ => rfl

/-- So is everything that it calls. -/
theorem same_defs : @Cert.Kernel.defs Bits _ = @Cert.KernelIdeal.defs Bits _ :=
  congrArg (Pipeline.defs (Cert.KernelIdeal.pcfgs (F := Bits))) same_bodies

/-- Hence the same frame of the kernel before idealization. -/
theorem frame_bits {m : (ℓ : Loc Cert.Kernel.nD Cert.Kernel.τ Cert.Kernel.sig) → Buf (Elt Bits) ℓ} (ρ : Dev Cert.Kernel.nD → PrngReg)
    (h : Agrees (F := Bits) m σ) :
    θ_run (Cert.Kernel.defs (F := Bits)) (onTc (τ := Cert.Kernel.τ) (Cert.Kernel.main (F := Bits))) ⟨m, fun _ => 0, ρ⟩ (fun r =>
      (∀ c : Dev Cert.Kernel.nD, r.2.mem ((c : Thread Cert.Kernel.nD Cert.Kernel.τ).loc Cert.Kernel.main_arg0) = m ((c : Thread Cert.Kernel.nD Cert.Kernel.τ).loc Cert.Kernel.main_arg0)
          ∧ r.2.mem ((c : Thread Cert.Kernel.nD Cert.Kernel.τ).loc Cert.Kernel.main_arg1) = m ((c : Thread Cert.Kernel.nD Cert.Kernel.τ).loc Cert.Kernel.main_arg1))
        ∧ r.2.sem = fun _ => 0) := by
  rw [same_defs]
  exact frame (F := Bits) (m := m) ρ h

/-- The frame of the reference. -/
theorem frame_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
          r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
          ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1))
        ∧ r.2.sem = fun _ => 0) :=
  (θ_run Cert.ReferenceIdeal.defs _ _).mono (fun _ hr => ⟨fun c => (hr.1 c).2, hr.2⟩) (Ref.run m ρ)

/-- The value: device `c` of the kernel ends with block `c` of the reference's result. -/
theorem same_function {σ : Equiv.Perm (Dev nD)} (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : Agrees m σ)
    (parts : ∀ c : Dev nD,
      m ((c : Thread nD τ).loc main_arg0) = Layout.block ⟨3, ![1, 1024, 1024]⟩ ⟨3, ![8, 1024, 1024]⟩ 0 8 c (m' (((0 : Dev Cert.ReferenceIdeal.nD) : Thread Cert.ReferenceIdeal.nD Cert.ReferenceIdeal.τ).loc Cert.ReferenceIdeal.main_arg0))
      ∧ m ((c : Thread nD τ).loc main_arg1) = m' (((0 : Dev Cert.ReferenceIdeal.nD) : Thread Cert.ReferenceIdeal.nD Cert.ReferenceIdeal.τ).loc Cert.ReferenceIdeal.main_arg1)) :
    ∃ v0 : Buf (Elt Ideal) (((0 : Dev Cert.ReferenceIdeal.nD) : Thread Cert.ReferenceIdeal.nD Cert.ReferenceIdeal.τ).loc Cert.ReferenceIdeal.main_v9),
      θ_run (defs (F := Ideal)) (onTc (τ := τ) (main (F := Ideal))) ⟨m, fun _ => 0, g⟩ (fun r => ∀ c : Dev nD,
          r.2.mem ((c : Thread nD τ).loc main_v1) = Layout.block ⟨3, ![1, 1024, 1024]⟩ ⟨3, ![8, 1024, 1024]⟩ 0 8 c v0
          ∧ r.2.mem ((c : Thread nD τ).loc main_arg0) = m ((c : Thread nD τ).loc main_arg0)
          ∧ r.2.mem ((c : Thread nD τ).loc main_arg1) = m ((c : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD) : Thread Cert.ReferenceIdeal.nD Cert.ReferenceIdeal.τ).loc Cert.ReferenceIdeal.main_v9) = v0
          ∧ r.2.mem (((0 : Dev Cert.ReferenceIdeal.nD) : Thread Cert.ReferenceIdeal.nD Cert.ReferenceIdeal.τ).loc Cert.ReferenceIdeal.main_arg0) = m' (((0 : Dev Cert.ReferenceIdeal.nD) : Thread Cert.ReferenceIdeal.nD Cert.ReferenceIdeal.τ).loc Cert.ReferenceIdeal.main_arg0)
          ∧ r.2.mem (((0 : Dev Cert.ReferenceIdeal.nD) : Thread Cert.ReferenceIdeal.nD Cert.ReferenceIdeal.τ).loc Cert.ReferenceIdeal.main_arg1) = m' (((0 : Dev Cert.ReferenceIdeal.nD) : Thread Cert.ReferenceIdeal.nD Cert.ReferenceIdeal.τ).loc Cert.ReferenceIdeal.main_arg1)) := by
  -- the whole arrays: the reference's arguments
  let x := m' (((0 : Dev Cert.ReferenceIdeal.nD) : Thread Cert.ReferenceIdeal.nD Cert.ReferenceIdeal.τ).loc Cert.ReferenceIdeal.main_arg0)
  let t := m' (((0 : Dev Cert.ReferenceIdeal.nD) : Thread Cert.ReferenceIdeal.nD Cert.ReferenceIdeal.τ).loc Cert.ReferenceIdeal.main_arg1)
  have spelt : ∀ j : Dev nD, (t : IVec S8 32) (pos j) = BitVec.ofNat 32 (σ j).val := fun j =>
    (congrFun (parts 0).2 (pos j)).symm.trans (h 0 j)
  refine ⟨Ref.sortedBlocks (F := Ideal) x t, ?_, ?_⟩
  · refine (θ_run defs _ _).mono (fun r hr c => ⟨?_, (hr.1 c).2⟩) (run g h)
    rw [(hr.1 c).1, (parts (σ.symm c)).1]
    exact (Ref.sortedBlocks_block (F := Ideal) t σ spelt x c).symm
  · exact (θ_run Cert.ReferenceIdeal.defs _ _).mono (fun r hr => ⟨((hr.1 0).1).trans (Ref.casts _), (hr.1 0).2⟩) (Ref.run m' g')

end Cert.Permute

end
-- ==== Proof.lean ====
/-
# The proof of the certificate's claim

The modules under `Proof/`: `Table` (what `pi` spells), `Protocol` (who pays what onto which semaphore, and what it hands
over), `Steps` and `Body` (one device's run), `Dealing` and `Run` (the launch, and what all eight devices end with),
`Ref` (what the reference computes), `Rolls` (what each precondition says), `Values` (each claim, for any permutation).
Here each claim is the one of `Values`, at the roll that the claim's precondition names.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_roll_1_Kernel
public import proofs.«01_k».proof.Proof.Gen.Pre_roll_1_ReferenceIdeal
public import proofs.«01_k».proof.Proof.Gen.Pre_roll_2_Kernel
public import proofs.«01_k».proof.Proof.Gen.Pre_roll_2_ReferenceIdeal
public import proofs.«01_k».proof.Proof.Gen.Pre_roll_3_Kernel
public import proofs.«01_k».proof.Proof.Gen.Pre_roll_3_ReferenceIdeal
public import proofs.«01_k».proof.Proof.Gen.Pre_roll_4_Kernel
public import proofs.«01_k».proof.Proof.Gen.Pre_roll_4_ReferenceIdeal
public import proofs.«01_k».proof.Proof.Gen.Pre_roll_5_Kernel
public import proofs.«01_k».proof.Proof.Gen.Pre_roll_5_ReferenceIdeal
public import proofs.«01_k».proof.Proof.Gen.Pre_roll_6_Kernel
public import proofs.«01_k».proof.Proof.Gen.Pre_roll_6_ReferenceIdeal
public import proofs.«01_k».proof.Proof.Gen.Pre_roll_7_Kernel
public import proofs.«01_k».proof.Proof.Gen.Pre_roll_7_ReferenceIdeal
public import proofs.«01_k».proof.Proof.Values

@[expose] public section

noncomputable section

namespace Cert.Proof

open Idealize.ShloMosaic Idealize.SL.Sem Cert.Permute

theorem claim : Cert.Claim := ⟨Cert.Kernel.Gen.facts, Cert.KernelIdeal.Gen.facts, Cert.ReferenceIdeal.Gen.facts,
  Cert.Pre_roll_1_Kernel.Gen.facts, Cert.Pre_roll_2_Kernel.Gen.facts, Cert.Pre_roll_3_Kernel.Gen.facts, Cert.Pre_roll_4_Kernel.Gen.facts, Cert.Pre_roll_5_Kernel.Gen.facts, Cert.Pre_roll_6_Kernel.Gen.facts, Cert.Pre_roll_7_Kernel.Gen.facts,
  Cert.Pre_roll_1_ReferenceIdeal.Gen.facts, Cert.Pre_roll_2_ReferenceIdeal.Gen.facts, Cert.Pre_roll_3_ReferenceIdeal.Gen.facts, Cert.Pre_roll_4_ReferenceIdeal.Gen.facts, Cert.Pre_roll_5_ReferenceIdeal.Gen.facts, Cert.Pre_roll_6_ReferenceIdeal.Gen.facts, Cert.Pre_roll_7_ReferenceIdeal.Gen.facts,
  -- the kernel's frames
  fun _ ρ pre => frame_bits ρ fun c => spells_1 _ _ (pre c),
  fun _ ρ pre => frame_bits ρ fun c => spells_2 _ _ (pre c),
  fun _ ρ pre => frame_bits ρ fun c => spells_3 _ _ (pre c),
  fun _ ρ pre => frame_bits ρ fun c => spells_4 _ _ (pre c),
  fun _ ρ pre => frame_bits ρ fun c => spells_5 _ _ (pre c),
  fun _ ρ pre => frame_bits ρ fun c => spells_6 _ _ (pre c),
  fun _ ρ pre => frame_bits ρ fun c => spells_7 _ _ (pre c),
  -- the idealized kernel's
  fun _ ρ pre => frame ρ fun c => spells_1 _ _ (pre c),
  fun _ ρ pre => frame ρ fun c => spells_2 _ _ (pre c),
  fun _ ρ pre => frame ρ fun c => spells_3 _ _ (pre c),
  fun _ ρ pre => frame ρ fun c => spells_4 _ _ (pre c),
  fun _ ρ pre => frame ρ fun c => spells_5 _ _ (pre c),
  fun _ ρ pre => frame ρ fun c => spells_6 _ _ (pre c),
  fun _ ρ pre => frame ρ fun c => spells_7 _ _ (pre c),
  -- the reference's
  fun m ρ _ => frame_ref m ρ,
  fun m ρ _ => frame_ref m ρ,
  fun m ρ _ => frame_ref m ρ,
  fun m ρ _ => frame_ref m ρ,
  fun m ρ _ => frame_ref m ρ,
  fun m ρ _ => frame_ref m ρ,
  fun m ρ _ => frame_ref m ρ,
  fun m ρ _ => frame_ref m ρ,
  -- no rule was applied
  trivial,
  -- the values
  fun m g m' g' pre parts => same_function m g m' g' (fun c => spells_1 _ _ (pre c)) parts,
  fun m g m' g' pre parts => same_function m g m' g' (fun c => spells_2 _ _ (pre c)) parts,
  fun m g m' g' pre parts => same_function m g m' g' (fun c => spells_3 _ _ (pre c)) parts,
  fun m g m' g' pre parts => same_function m g m' g' (fun c => spells_4 _ _ (pre c)) parts,
  fun m g m' g' pre parts => same_function m g m' g' (fun c => spells_5 _ _ (pre c)) parts,
  fun m g m' g' pre parts => same_function m g m' g' (fun c => spells_6 _ _ (pre c)) parts,
  fun m g m' g' pre parts => same_function m g m' g' (fun c => spells_7 _ _ (pre c)) parts⟩

end Cert.Proof

end
